-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_unit [hPre_in_unit : Cert.Pre_in_unit.Facts] (m : (ℓ : Loc Cert.KernelIdeal.nD Cert.KernelIdeal.τ Cert.KernelIdeal.sig) → Buf (Elt Ideal) ℓ) : Prop :=
  ∀ c : Dev Cert.KernelIdeal.nD,
    (Cert.Pre_in_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_unit [hPre_in_unit : Cert.Pre_in_unit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_unit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_unit [hKernelIdeal : Cert.KernelIdeal.Facts] [hPre_in_unit : Cert.Pre_in_unit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_unit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_unit [hReferenceIdeal : Cert.ReferenceIdeal.Facts] [hPre_in_unit : Cert.Pre_in_unit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_unit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_unit [hKernelIdeal : Cert.KernelIdeal.Facts] [hReferenceIdeal : Cert.ReferenceIdeal.Facts] [hPre_in_unit : Cert.Pre_in_unit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_unit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_unit : Cert.Pre_in_unit.Facts),
    quiescent_Kernel (hKernel := hKernel)
    ∧ quiescent_KernelIdeal (hKernelIdeal := hKernelIdeal)
    ∧ quiescent_KernelIdeal_pre_in_unit (hKernelIdeal := hKernelIdeal) (hPre_in_unit := hPre_in_unit)
    ∧ quiescent_ReferenceIdeal (hReferenceIdeal := hReferenceIdeal)
    ∧ quiescent_ReferenceIdeal_pre_in_unit (hReferenceIdeal := hReferenceIdeal) (hPre_in_unit := hPre_in_unit)
    ∧ preserves_Kernel_KernelIdeal
    ∧ algebraic_KernelIdeal_ReferenceIdeal_pre_in_unit (hKernelIdeal := hKernelIdeal) (hReferenceIdeal := hReferenceIdeal) (hPre_in_unit := hPre_in_unit)
-- ==== Pre_in_unit.lean ====
abbrev S1048576x256 : Shape := ⟨2, ![1048576, 256]⟩
abbrev S1048576 : Shape := ⟨1, ![1048576]⟩
abbrev S_ : Shape := ⟨0, ![]⟩
abbrev S1048000x256 : Shape := ⟨2, ![1048000, 256]⟩
abbrev S1048000 : Shape := ⟨1, ![1048000]⟩

class Facts : Prop where
  slices_S1048576x256_S1048000x256_0_0 : S1048576x256.Slices ![0, 0] S1048000x256
  reducesTo_S1048000x256_S1048000_d1 : S1048000x256.ReducesTo [1] S1048000
  h_S_ : 0 < S_.numel
  bcast_S_S1048000 : S_.BroadcastsInDim S1048000 (![] : Fin 0 → Fin S1048000.rank)
  reducesTo_S1048000_S_d0 : S1048000.ReducesTo [0] S_

variable [Facts]

def fn {F : FTy → Type} [FloatOps F] (main_arg0 : FVec F S1048576x256 .f32) (main_arg1 : IVec S1048576 32) (main_arg2 : IVec S_ 32) : IVec S_ 1 :=
  let main_v0 : FVec F S1048000x256 .f32 := (extractStridedSlice S1048000x256 ![0, 0] · slices_S1048576x256_S1048000x256_0_0) main_arg0
  let main_cst : FVec F S_ .f32 := constant S_ .f32 0xFF800000#32
  let main_v1 : FVec F S1048000 .f32 := (fun x v => Host.reduce FloatOps.maximumf x v reducesTo_S1048000x256_S1048000_d1 h_S_) main_v0 main_cst
  let main_cst_0 : FVec F S_ .f32 := constant S_ .f32 0x00000000#32
  let main_v2 : FVec F S1048000 .f32 := broadcastInDim S1048000 ![] bcast_S_S1048000 main_cst_0
  let main_v3 : IVec S1048000 1 := cmpf .ogt main_v1 main_v2
  let main_cst_1 : FVec F S_ .f32 := constant S_ .f32 0x3F800000#32
  let main_v4 : FVec F S1048000 .f32 := broadcastInDim S1048000 ![] bcast_S_S1048000 main_cst_1
  let main_v5 : IVec S1048000 1 := cmpf .ole main_v1 main_v4
  let main_v6 : IVec S1048000 1 := andi main_v3 main_v5
  let main_c : IVec S_ 1 := constantI S_ 1 1#1
  let main_v7 : IVec S_ 1 := (fun x v => Host.reduce IntOp.andi x v reducesTo_S1048000_S_d0 h_S_) main_v6 main_c
  main_v7
-- ==== Kernel.lean ====
abbrev S1048576x256 : Shape := ⟨2, ![1048576, 256]⟩
abbrev S1048576 : Shape := ⟨1, ![1048576]⟩
abbrev S_ : Shape := ⟨0, ![]⟩
abbrev S15 : Shape := ⟨1, ![15]⟩
abbrev S1 : Shape := ⟨1, ![1]⟩
abbrev S16 : Shape := ⟨1, ![16]⟩
abbrev S1x128 : Shape := ⟨2, ![1, 128]⟩
abbrev S2 : Shape := ⟨1, ![2]⟩
abbrev S1048576x1 : Shape := ⟨2, ![1048576, 1]⟩
abbrev S8x128 : Shape := ⟨2, ![8, 128]⟩
abbrev S1000x256 : Shape := ⟨2, ![1000, 256]⟩
abbrev S1000x1 : Shape := ⟨2, ![1000, 1]⟩
abbrev S1000 : Shape := ⟨1, ![1000]⟩
abbrev S1000x128 : Shape := ⟨2, ![1000, 128]⟩
abbrev S128 : Shape := ⟨1, ![128]⟩
abbrev S1x1x128 : Shape := ⟨3, ![1, 1, 128]⟩
abbrev S1x1x1 : Shape := ⟨3, ![1, 1, 1]⟩
abbrev S1x1 : Shape := ⟨2, ![1, 1]⟩
abbrev S1x15 : Shape := ⟨2, ![1, 15]⟩

abbrev nBuf : Space → Nat
  | .hbm => 52
  | .vmem => 7
  | .smem => 0
  | _ => 0

abbrev bufTy : (tb : Table) → Fin (tcTables nBuf tb) → BufTy
  | .hbm, ⟨0, _⟩ => ⟨S1048576x256, .f32⟩
  | .hbm, ⟨1, _⟩ => ⟨S1048576, .i32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S15, .f32⟩
  | .hbm, ⟨11, _⟩ => ⟨S_, .f32⟩
  | .hbm, ⟨12, _⟩ => ⟨S15, .f32⟩
  | .hbm, ⟨13, _⟩ => ⟨S15, .f32⟩
  | .hbm, ⟨14, _⟩ => ⟨S1, .f32⟩
  | .hbm, ⟨15, _⟩ => ⟨S_, .f32⟩
  | .hbm, ⟨16, _⟩ => ⟨S15, .f32⟩
  | .hbm, ⟨17, _⟩ => ⟨S15, .f32⟩
  | .hbm, ⟨18, _⟩ => ⟨S15, .f32⟩
  | .hbm, ⟨19, _⟩ => ⟨S15, .f32⟩
  | .hbm, ⟨20, _⟩ => ⟨S1, .f32⟩
  | .hbm, ⟨21, _⟩ => ⟨S15, .f32⟩
  | .hbm, ⟨22, _⟩ => ⟨S15, .f32⟩
  | .hbm, ⟨23, _⟩ => ⟨S15, .f32⟩
  | .hbm, ⟨24, _⟩ => ⟨S1, .f32⟩
  | .hbm, ⟨25, _⟩ => ⟨S16, .f32⟩
  | .hbm, ⟨26, _⟩ => ⟨S_, .f32⟩
  | .hbm, ⟨27, _⟩ => ⟨S1x128, .f32⟩
  | .hbm, ⟨28, _⟩ => ⟨S15, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S15, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S1x128, .f32⟩
  | .hbm, ⟨44, _⟩ => ⟨S1048576x1, .i32⟩
  | .hbm, ⟨45, _⟩ => ⟨S8x128, .f32⟩
  | .hbm, ⟨46, _⟩ => ⟨S1x1, .f32⟩
  | .hbm, ⟨47, _⟩ => ⟨S1, .f32⟩
  | .hbm, ⟨48, _⟩ => ⟨S1x15, .f32⟩
  | .hbm, ⟨49, _⟩ => ⟨S15, .f32⟩
  | .hbm, ⟨50, _⟩ => ⟨S1x15, .f32⟩
  | .hbm, ⟨51, _⟩ => ⟨S15, .f32⟩
  | .local _ .vmem, ⟨0, _⟩ => ⟨S1x128, .f32⟩
  | .local _ .vmem, ⟨1, _⟩ => ⟨S1x128, .f32⟩
  | .local _ .vmem, ⟨2, _⟩ => ⟨S1000x256, .f32⟩
  | .local _ .vmem, ⟨3, _⟩ => ⟨S1000x256, .f32⟩
  | .local _ .vmem, ⟨4, _⟩ => ⟨S1000x1, .i32⟩
  | .local _ .vmem, ⟨5, _⟩ => ⟨S1000x1, .i32⟩
  | .local _ .vmem, ⟨6, _⟩ => ⟨S8x128, .f32⟩
  | _, _ => ⟨S1048576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_cst_1 : Ref sig .tc := ⟨.hbm, 26, rfl⟩
abbrev main_v1 : Ref sig .tc := ⟨.hbm, 27, rfl⟩
abbrev main_v2 : Ref sig .tc := ⟨.hbm, 28, rfl⟩
abbrev main_c : Ref sig .tc := ⟨.hbm, 29, rfl⟩
abbrev main_v3 : Ref sig .tc := ⟨.hbm, 30, rfl⟩
abbrev main_c_2 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_3 : Ref sig .tc := ⟨.hbm, 35, rfl⟩
abbrev main_v7 : Ref sig .tc := ⟨.hbm, 36, rfl⟩
abbrev main_v8 : Ref sig .tc := ⟨.hbm, 37, rfl⟩
abbrev main_c_4 : Ref sig .tc := ⟨.hbm, 38, rfl⟩
abbrev main_v9 : Ref sig .tc := ⟨.hbm, 39, rfl⟩
abbrev main_c_5 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![1048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1048576x256 : Shape := ⟨2, ![1048576, 256]⟩
abbrev S1048576 : Shape := ⟨1, ![1048576]⟩
abbrev S_ : Shape := ⟨0, ![]⟩
abbrev S1048000x256 : Shape := ⟨2, ![1048000, 256]⟩
abbrev S1048000 : Shape := ⟨1, ![1048000]⟩
abbrev S15 : Shape := ⟨1, ![15]⟩
abbrev S1048000x1 : Shape := ⟨2, ![1048000, 1]⟩
abbrev S1 : Shape := ⟨1, ![1]⟩

abbrev nBuf : Space → Nat
  | .hbm => 55
  | .vmem => 0
  | .smem => 0
  | _ => 0

abbrev bufTy : (tb : Table) → Fin (tcTables nBuf tb) → BufTy
  | .hbm, ⟨0, _⟩ => ⟨S1048576x256, .f32⟩
  | .hbm, ⟨1, _⟩ => ⟨S1048576, .i32⟩
  | .hbm, ⟨2, _⟩ => ⟨S_, .i32⟩
  | .hbm, ⟨3, _⟩ => ⟨S1048000x256, .f32⟩
  | .hbm, ⟨4, _⟩ => ⟨S1048000, .i32⟩
  | .hbm, ⟨5, _⟩ => ⟨S_, .f32⟩
  | .hbm, ⟨6, _⟩ => ⟨S1048000, .f32⟩
  | .hbm, ⟨7, _⟩ => ⟨S1048000x256, .i32⟩
  | .hbm, ⟨8, _⟩ => ⟨S_, .f32⟩
  | .hbm, ⟨9, _⟩ => ⟨S_, .i32⟩
  | .hbm, ⟨10, _⟩ => ⟨S1048000, .f32⟩
  | .hbm, ⟨11, _⟩ => ⟨S1048000, .i32⟩
  | .hbm, ⟨12, _⟩ => ⟨S1048000, .i1⟩
  | .hbm, ⟨13, _⟩ => ⟨S1048000, .f32⟩
  | .hbm, ⟨14, _⟩ => ⟨S_, .f32⟩
  | .hbm, ⟨15, _⟩ => ⟨S1048000, .f32⟩
  | .hbm, ⟨16, _⟩ => ⟨S1048000, .f32⟩
  | .hbm, ⟨17, _⟩ => ⟨S1048000, .f32⟩
  | .hbm, ⟨18, _⟩ => ⟨S1048000, .i32⟩
  | .hbm, ⟨19, _⟩ => ⟨S_, .i32⟩
  | .hbm, ⟨20, _⟩ => ⟨S1048000, .i32⟩
  | .hbm, ⟨21, _⟩ => ⟨S1048000, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1048000, .i32⟩
  | .hbm, ⟨26, _⟩ => ⟨S1048000, .i32⟩
  | .hbm, ⟨27, _⟩ => ⟨S_, .i32⟩
  | .hbm, ⟨28, _⟩ => ⟨S1048000, .i32⟩
  | .hbm, ⟨29, _⟩ => ⟨S1048000, .i32⟩
  | .hbm, ⟨30, _⟩ => ⟨S_, .f32⟩
  | .hbm, ⟨31, _⟩ => ⟨S1048000, .f32⟩
  | .hbm, ⟨32, _⟩ => ⟨S_, .f32⟩
  | .hbm, ⟨33, _⟩ => ⟨S15, .f32⟩
  | .hbm, ⟨34, _⟩ => ⟨S1048000x1, .i32⟩
  | .hbm, ⟨35, _⟩ => ⟨S15, .f32⟩
  | .hbm, ⟨36, _⟩ => ⟨S_, .f32⟩
  | .hbm, ⟨37, _⟩ => ⟨S15, .f32⟩
  | .hbm, ⟨38, _⟩ => ⟨S1048000x1, .i32⟩
  | .hbm, ⟨39, _⟩ => ⟨S15, .f32⟩
  | .hbm, ⟨40, _⟩ => ⟨S_, .f32⟩
  | .hbm, ⟨41, _⟩ => ⟨S15, .f32⟩
  | .hbm, ⟨42, _⟩ => ⟨S1048000x1, .i32⟩
  | .hbm, ⟨43, _⟩ => ⟨S15, .f32⟩
  | .hbm, ⟨44, _⟩ => ⟨S_, .f32⟩
  | .hbm, ⟨45, _⟩ => ⟨S15, .f32⟩
  | .hbm, ⟨46, _⟩ => ⟨S15, .i1⟩
  | .hbm, ⟨47, _⟩ => ⟨S15, .f32⟩
  | .hbm, ⟨48, _⟩ => ⟨S15, .f32⟩
  | .hbm, ⟨49, _⟩ => ⟨S_, .f32⟩
  | .hbm, ⟨50, _⟩ => ⟨S15, .f32⟩
  | .hbm, ⟨51, _⟩ => ⟨S15, .f32⟩
  | .hbm, ⟨52, _⟩ => ⟨S_, .f32⟩
  | .hbm, ⟨53, _⟩ => ⟨S_, .f32⟩
  | .hbm, ⟨54, _⟩ => ⟨S1, .f32⟩
  | _, _ => ⟨S1048576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_8 : Ref sig .tc := ⟨.hbm, 49, rfl⟩
abbrev main_v27 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]
-- ==== Proof.RefRun.lean ====
/-
  The run of the reference program (`Cert.ReferenceIdeal`): one straight line of host operations, so every buffer ends at the operations'
  results folded over the launch contents. This file names the values the three results are (`conf`, `acc`, `bin`, `num`, `confSum`,
  `accSum`, `ece`), reads the fold at the three result buffers, and states the run and its frame.
-/
module

public import proofs.«01_k».proof.Defs
public import proofs.«01_k».proof.Proof.Gen.ReferenceIdeal
public import Idealize.ShloMosaic.Lib.StableHlo.Run
public import Idealize.ShloMosaic.Lib.Claim
public import Idealize.ShloMosaic.Lib.Quiescent

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## The values -/

/-- The rows read. -/
def rows (a : FVec F S1048576x256 .f32) : FVec F S1048000x256 .f32 :=
  extractStridedSlice S1048000x256 ![0, 0] a slices_S1048576x256_S1048000x256_0_0
/-- Their labels. -/
def labs (l : IVec S1048576 32) : IVec S1048000 32 := extractStridedSlice S1048000 ![0] l slices_S1048576_S1048000_0
/-- Each row's largest probability. -/
def conf (a : FVec F S1048576x256 .f32) : FVec F S1048000 .f32 :=
  Host.reduce FloatOps.maximumf (rows a) (constant S_ .f32 0xFF800000#32) reducesTo_S1048000x256_S1048000_d1 h_S_
/-- The column it stands in. -/
def pred (a : FVec F S1048576x256 .f32) : IVec S1048000 32 := fun j =>
  (Host.argReduce reducer_argmax_f32_i32 (rows a) (iotaInDim S1048000x256 32 1) (constant S_ .f32 0xFF800000#32) (constantI S_ 32 0#32)
    reducesTo_S1048000x256_S1048000_d1 h_S_ j).2
/-- One where that column is the label. -/
def acc (a : FVec F S1048576x256 .f32) (l : IVec S1048576 32) : FVec F S1048000 .f32 := uitofp .f32 (cmpi .eq (pred a) (labs l))
/-- The row's bin before it is clipped. -/
def rawBin (a : FVec F S1048576x256 .f32) : IVec S1048000 32 :=
  subi (fptosi 32 (Host.ceil (mulf (conf a) (broadcastInDim S1048000 ![] bcast_S_S1048000 (constant S_ .f32 0x41700000#32)))))
    (broadcastInDim S1048000 ![] bcast_S_S1048000 (constantI S_ 32 1#32))
/-- The row's bin, as the column of indices the sums by bin take. -/
def bin (a : FVec F S1048576x256 .f32) : IVec S1048000x1 32 :=
  broadcastInDim S1048000x1 ![0] bcast_S1048000_S1048000x1_0
    (minsi (broadcastInDim S1048000 ![] bcast_S_S1048000 (constantI S_ 32 14#32))
      (maxsi (broadcastInDim S1048000 ![] bcast_S_S1048000 (constantI S_ 32 0#32)) (rawBin a)))
/-- Fifteen zeros. -/
def zeros : FVec F S15 .f32 := broadcastInDim S15 ![] bcast_S_S15 (constant S_ .f32 0x00000000#32)
/-- The sum by bin of one value per row. -/
def byBin (a : FVec F S1048576x256 .f32) (u : FVec F S1048000 .f32) : FVec F S15 .f32 :=
  Host.scatterAdd scatter_S15_S1048000x1_S1048000_n_0_0_1 zeros (bin a) u
/-- How many rows each bin has. -/
def num (a : FVec F S1048576x256 .f32) : FVec F S15 .f32 :=
  byBin a (broadcastInDim S1048000 ![] bcast_S_S1048000 (constant S_ .f32 0x3F800000#32))
/-- The confidence in each bin. -/
def confSum (a : FVec F S1048576x256 .f32) : FVec F S15 .f32 := byBin a (conf a)
/-- The right predictions in each bin. -/
def accSum (a : FVec F S1048576x256 .f32) (l : IVec S1048576 32) : FVec F S15 .f32 := byBin a (acc a l)
/-- The gap of each bin, zero where the bin is empty. -/
def gaps (a : FVec F S1048576x256 .f32) (l : IVec S1048576 32) : FVec F S15 .f32 :=
  select (cmpf .ogt (num a) zeros) (Host.absf (subf (confSum a) (accSum a l))) zeros
/-- Their sum. -/
def ece (a : FVec F S1048576x256 .f32) (l : IVec S1048576 32) : FVec F S1 .f32 :=
  broadcastInDim S1 ![] bcast_S_S1 (Host.reduceAdd (gaps a l) (constant S_ .f32 0x00000000#32) reducesTo_S15_S_d0 h_S_)

/-! ## The line of operations -/

/-- @main's operations, in order. -/
abbrev ops : List (HloOp τ sig (Elt F)) :=
  [ unary main_arg0 main_v0 (extractStridedSlice S1048000x256 ![0, 0] · slices_S1048576x256_S1048000x256_0_0),
    unary main_arg1 main_v1 (extractStridedSlice S1048000 ![0] · slices_S1048576_S1048000_0),
    nullary main_cst (constant S_ .f32 0xFF800000#32),
    binary main_v0 main_cst main_v2 (fun x v => Host.reduce FloatOps.maximumf x v reducesTo_S1048000x256_S1048000_d1 h_S_),
    nullary main_call0_v0 (iotaInDim S1048000x256 32 1),
    nullary main_call0_cst (constant S_ .f32 0xFF800000#32),
    nullary main_call0_c (constantI S_ 32 0#32),
    quaternary main_v0 main_call0_v0 main_call0_cst main_call0_c main_call0_v1_0
      (fun x y u v j => (Host.argReduce reducer_argmax_f32_i32 x y u v reducesTo_S1048000x256_S1048000_d1 h_S_ j).1),
    quaternary main_v0 main_call0_v0 main_call0_cst main_call0_c main_v3
      (fun x y u v j => (Host.argReduce reducer_argmax_f32_i32 x y u v reducesTo_S1048000x256_S1048000_d1 h_S_ j).2),
    binary main_v3 main_v1 main_v4 (cmpi .eq),
    unary main_v4 main_v5 (uitofp .f32),
    nullary main_cst_0 (constant S_ .f32 0x41700000#32),
    unary main_cst_0 main_v6 (broadcastInDim S1048000 ![] bcast_S_S1048000),
    binary main_v2 main_v6 main_v7 mulf,
    unary main_v7 main_v8 Host.ceil,
    unary main_v8 main_v9 (fptosi 32),
    nullary main_c (constantI S_ 32 1#32),
    unary main_c main_v10 (broadcastInDim S1048000 ![] bcast_S_S1048000),
    binary main_v9 main_v10 main_v11 subi,
    nullary main_c_1 (constantI S_ 32 0#32),
    nullary main_c_2 (constantI S_ 32 14#32),
    unary main_c_1 main_call1_v0 id,
    unary main_call1_v0 main_call1_v1 (broadcastInDim S1048000 ![] bcast_S_S1048000),
    binary main_call1_v1 main_v11 main_call1_v2 maxsi,
    unary main_c_2 main_call1_v3 id,
    unary main_call1_v3 main_call1_v4 (broadcastInDim S1048000 ![] bcast_S_S1048000),
    binary main_call1_v4 main_call1_v2 main_v12 minsi,
    nullary main_cst_3 (constant S_ .f32 0x3F800000#32),
    unary main_cst_3 main_v13 (broadcastInDim S1048000 ![] bcast_S_S1048000),
    nullary main_cst_4 (constant S_ .f32 0x00000000#32),
    unary main_cst_4 main_v14 (broadcastInDim S15 ![] bcast_S_S15),
    unary main_v12 main_v15 (broadcastInDim S1048000x1 ![0] bcast_S1048000_S1048000x1_0),
    ternary main_v14 main_v15 main_v13 main_v16 (fun x i u => Host.scatterAdd scatter_S15_S1048000x1_S1048000_n_0_0_1 x i u),
    nullary main_cst_5 (constant S_ .f32 0x00000000#32),
    unary main_cst_5 main_v17 (broadcastInDim S15 ![] bcast_S_S15),
    unary main_v12 main_v18 (broadcastInDim S1048000x1 ![0] bcast_S1048000_S1048000x1_0),
    ternary main_v17 main_v18 main_v2 main_v19 (fun x i u => Host.scatterAdd scatter_S15_S1048000x1_S1048000_n_0_0_1 x i u),
    nullary main_cst_6 (constant S_ .f32 0x00000000#32),
    unary main_cst_6 main_v20 (broadcastInDim S15 ![] bcast_S_S15),
    unary main_v12 main_v21 (broadcastInDim S1048000x1 ![0] bcast_S1048000_S1048000x1_0),
    ternary main_v20 main_v21 main_v5 main_v22 (fun x i u => Host.scatterAdd scatter_S15_S1048000x1_S1048000_n_0_0_1 x i u),
    nullary main_cst_7 (constant S_ .f32 0x00000000#32),
    unary main_cst_7 main_v23 (broadcastInDim S15 ![] bcast_S_S15),
    binary main_v16 main_v23 main_v24 (cmpf .ogt),
    binary main_v19 main_v22 main_v25 subf,
    unary main_v25 main_v26 Host.absf,
    nullary main_cst_8 (constant S_ .f32 0x00000000#32),
    unary main_cst_8 main_v27 (broadcastInDim S15 ![] bcast_S_S15),
    ternary main_v24 main_v26 main_v27 main_v28 select,
    nullary main_cst_9 (constant S_ .f32 0x00000000#32),
    binary main_v28 main_cst_9 main_v29 (fun x v => Host.reduceAdd x v reducesTo_S15_S_d0 h_S_),
    unary main_v29 main_v30 (broadcastInDim S1 ![] bcast_S_S1) ]

/-- @main is that straight line. -/
theorem main_eq (c : Dev nD) : main (F := F) c = seq ops := rfl

set_option maxRecDepth 16384 in
/-- The line's end at the number of rows by bin: -/
theorem num_eq (V : Valuation τ sig (Elt F)) :
    after ops V (main_v16 : DevRef τ sig) = num (V (main_arg0 : DevRef τ sig)) := by
  after_results
  rfl

set_option maxRecDepth 16384 in
/-- at the right predictions by bin: -/
theorem accSum_eq (V : Valuation τ sig (Elt F)) :
    after ops V (main_v22 : DevRef τ sig) = accSum (V (main_arg0 : DevRef τ sig)) (V (main_arg1 : DevRef τ sig)) := by
  after_results
  rfl

set_option maxRecDepth 16384 in
/-- and at the summed gaps. -/
theorem ece_eq (V : Valuation τ sig (Elt F)) :
    after ops V (main_v30 : DevRef τ sig) = ece (V (main_arg0 : DevRef τ sig)) (V (main_arg1 : DevRef τ sig)) := by
  after_results
  rfl

/-- No operation writes an argument's buffer. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., unary_bufs_sub .., nullary_bufs_sub .., binary_bufs_sub .., nullary_bufs_sub .., nullary_bufs_sub ..,
    nullary_bufs_sub .., quaternary_bufs_sub .., quaternary_bufs_sub .., binary_bufs_sub .., unary_bufs_sub .., nullary_bufs_sub ..,
    unary_bufs_sub .., binary_bufs_sub .., unary_bufs_sub .., unary_bufs_sub .., nullary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., nullary_bufs_sub ..,
    unary_bufs_sub .., unary_bufs_sub .., ternary_bufs_sub .., nullary_bufs_sub .., unary_bufs_sub .., unary_bufs_sub ..,
    ternary_bufs_sub .., nullary_bufs_sub .., unary_bufs_sub .., unary_bufs_sub .., ternary_bufs_sub .., nullary_bufs_sub ..,
    unary_bufs_sub .., binary_bufs_sub .., binary_bufs_sub .., unary_bufs_sub .., nullary_bufs_sub .., unary_bufs_sub ..,
    ternary_bufs_sub .., nullary_bufs_sub .., binary_bufs_sub .., unary_bufs_sub ..⟩

/-- Every weakly fair execution ends, with the three results at the values above and the arguments unchanged. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
        r.2.mem ((c.tc : Thread nD τ).loc main_v30) = ece (m ((c.tc : Thread nD τ).loc main_arg0)) (m ((c.tc : Thread nD τ).loc main_arg1))
        ∧ r.2.mem ((c.tc : Thread nD τ).loc main_v22) = accSum (m ((c.tc : Thread nD τ).loc main_arg0)) (m ((c.tc : Thread nD τ).loc main_arg1))
        ∧ r.2.mem ((c.tc : Thread nD τ).loc main_v16) = num (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v30).trans (ece_eq _), (h c main_v22).trans (accSum_eq _), (h c main_v16).trans (num_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

/-- The reference's frame: its arguments unchanged, and no counter to move. -/
theorem frame : Cert.quiescent_ReferenceIdeal := fun m ρ _ =>
  (θ_run defs _ _).mono (fun r h => ⟨fun c => (h c).2.2.2, Idealize.ShloMosaic.sem_eq_zero_of_no_sems (by decide) r.2⟩)
    (run_main (F := Ideal) m ρ)

end Cert.Proof.RefRun

end
-- ==== Proof.KernelBody.lean ====
/- What one grid point of the kernel leaves in the output block, row by row, at any float semantics: rows 0, 1 and 2
   take one step of accumulation each; at the last point rows 4, 5 and 6 are computed from the accumulated rows. -/
module

public import proofs.«01_k».proof.Proof.Gen.KernelIdeal.Frame
public import Idealize.ShloMosaic.Lib.WritesUnit
public import Idealize.ShloMosaic.Lib.Pointwise
public import Idealize.ShloMosaic.Lib.Pipeline.ValueKit.Tiles
public import Idealize.ShloMosaic.Lib.Pipeline.Value

@[expose] public section

set_option maxRecDepth 16384

noncomputable section

namespace Cert.Proof.KernelBody

open Idealize.ShloMosaic Idealize.ShloMosaic.TcCoe Idealize.ShloMosaic.Tactic Idealize.SL.Sem
open Cert.KernelIdeal Cert.KernelIdeal.Gen

variable {F : FTy → Type} [FloatOps F]

/-- The offsets (0, 0). -/
theorem hz2 : (![0, 0] : Fin 2 → ℕ) = fun _ => 0 := by funext a; fin_cases a <;> rfl

/-- Row r of an 8 × 128 block. -/
def row (x : Vec F S8x128 .f32) (r : Fin 8) : Vec F S1x128 .f32 := fun y => x (ix2 (n0 := 8) (n1 := 128) r (y 1))

/-- A load through the rectangle of row r reads row r. -/
theorem ld_row (x : Vec F S8x128 .f32) (o : ℕ) (inb) (r : Fin 8) (h : r.val = o) :
    View.ld x (Rect.unit (s := S8x128) ![o, 0] ![1, 128] inb) = row x r := by
  subst h
  funext y
  refine View.ld_unit_apply_of x _ _ _ y _ fun a => ?_
  fin_cases a
  · have : (y 0).val < 1 := (y 0).isLt
    show r.val = r.val + (y 0).val
    omega
  · exact (Nat.zero_add _).symm

section Rows

variable {sig' : RefSig} {κ : Kind} {sp : Space} (v : View sig' κ sp S8x128 .f32) (f : v.ty.Contents (Elt F))

/-- The newest store being to row r, row r reads its payload. -/
theorem row_hit (o : ℕ) (inb) (w : Vec F S1x128 .f32) (L : List (View.Piece (Elt F) S8x128 .f32)) (r : Fin 8) (h : r.val = o) :
    row (v.read (Elt F) (v.writes (Elt F) f (⟨Rect.unit (s := S8x128) ![o, 0] ![1, 128] inb, w⟩ :: L))) r = w := by
  subst h
  funext y
  refine View.read_writes_cons_unit_of_mem v f inb w L _ y rfl fun a => ?_
  fin_cases a
  · have : (y 0).val < 1 := (y 0).isLt
    show r.val = r.val + (y 0).val
    omega
  · exact (Nat.zero_add _).symm

/-- The newest store being to another row, row r reads what the earlier stores left. -/
theorem row_miss (o : ℕ) (inb) (w : Vec F S1x128 .f32) (L : List (View.Piece (Elt F) S8x128 .f32)) (r : Fin 8) (h : r.val ≠ o) :
    row (v.read (Elt F) (v.writes (Elt F) f (⟨Rect.unit (s := S8x128) ![o, 0] ![1, 128] inb, w⟩ :: L))) r
      = row (v.read (Elt F) (v.writes (Elt F) f L)) r := by
  funext y
  refine View.read_writes_cons_unit_of_not_mem v f inb w L _ rfl (0 : Fin 2) ?_
  show r.val < o ∨ o + 1 ≤ r.val
  omega

/-- The newest store being to the whole block, a row reads that row of its payload. -/
theorem row_whole (inb) (w : Vec F S8x128 .f32) (L : List (View.Piece (Elt F) S8x128 .f32)) (r : Fin 8) :
    row (v.read (Elt F) (v.writes (Elt F) f (⟨Rect.unit (s := S8x128) ![0, 0] ![8, 128] inb, w⟩ :: L))) r = row w r := by
  funext y
  refine View.read_writes_cons_unit_of_mem v f inb w L _ _ rfl fun a => ?_
  fin_cases a <;> exact (Nat.zero_add _).symm

/-- A load of row r after covering stores reads row r of what they left. -/
theorem readCov_row (o : ℕ) (inb) (L : List (View.Piece (Elt F) S8x128 .f32)) (r : Fin 8) (h : r.val = o) :
    v.readCov L (Rect.unit (s := S8x128) ![o, 0] ![1, 128] inb).toLoadRect
      = row (v.read (Elt F) (v.writes (Elt F) v.junk L)) r :=
  ld_row _ o inb r h

end Rows

section Out

variable (c : Dev nD) (i : grid0.Coords) (arg1 : Memref sig .tc .vmem S1x128 .f32) (h1 : arg1.IsWhole)
  (arg2 : Memref sig .tc .vmem S1x128 .f32) (h2 : arg2.IsWhole) (arg3 : Memref sig .tc .vmem S1000x256 .f32) (h3 : arg3.IsWhole)
  (arg4 : Memref sig .tc .vmem S1000x1 .i32) (h4 : arg4.IsWhole) (arg5 : Memref sig .tc .vmem S8x128 .f32) (h5 : arg5.IsWhole)
  (x0 x1 : Vec F S1x128 .f32) (x2 : Vec F S1000x256 .f32) (x3 : Vec F S1000x1 .i32) (xo : Vec F S8x128 .f32)

/-- The row of counts after a block: the block's count added to the row before. -/
def stepN (a : Vec F S1x128 .f32) : Vec F S1x128 .f32 := k0_pay1 (k0_pay14 x2 x0 x1) a
/-- The row of hits after a block. -/
def stepS (a : Vec F S1x128 .f32) : Vec F S1x128 .f32 := k0_pay2 (k0_pay15 x2 x3 x0 x1) a
/-- The row of summed confidences after a block. -/
def stepC (a : Vec F S1x128 .f32) : Vec F S1x128 .f32 := k0_pay3 (k0_pay16 x2 x0 x1) a

/-- At the first point the accumulating rows step from the zeros stored there. -/
theorem out_A (hc0 : cond0_0 i) (hc1 : ¬cond0_1 i) :
    row (out0_A_4 c i arg1 h1 arg2 h2 arg3 h3 arg4 h4 arg5 h5 hc0 hc1 x0 x1 x2 x3) 0 = stepN x0 x1 x2 (row k0_pay11 0)
    ∧ row (out0_A_4 c i arg1 h1 arg2 h2 arg3 h3 arg4 h4 arg5 h5 hc0 hc1 x0 x1 x2 x3) 1 = stepS x0 x1 x2 x3 (row k0_pay11 1)
    ∧ row (out0_A_4 c i arg1 h1 arg2 h2 arg3 h3 arg4 h4 arg5 h5 hc0 hc1 x0 x1 x2 x3) 2 = stepC x0 x1 x2 (row k0_pay11 2) := by
  unfold out0_A_4 kernelRun0_A
  dsimp only
  sl_unfold_words
  simp (disch := decide) only [readCov_row (r := 0), readCov_row (r := 1), readCov_row (r := 2), row_hit, row_miss, row_whole,
    View.readAt_eq_ld, Memref.IsWhole.read_unread, View.ld_unit_zero (S := S1000x256) hz2, View.ld_unit_zero (S := S1x128) hz2,
    View.ld_unit_zero (S := S1000x1) hz2]
  exact ⟨rfl, rfl, rfl⟩

/-- At a later point they step from what the point before left. -/
theorem out_B (hc0 : ¬cond0_0 i) (hc1 : ¬cond0_1 i) :
    row (out0_B_4 c i arg1 h1 arg2 h2 arg3 h3 arg4 h4 arg5 h5 hc0 hc1 x0 x1 x2 x3 xo) 0 = stepN x0 x1 x2 (row xo 0)
    ∧ row (out0_B_4 c i arg1 h1 arg2 h2 arg3 h3 arg4 h4 arg5 h5 hc0 hc1 x0 x1 x2 x3 xo) 1 = stepS x0 x1 x2 x3 (row xo 1)
    ∧ row (out0_B_4 c i arg1 h1 arg2 h2 arg3 h3 arg4 h4 arg5 h5 hc0 hc1 x0 x1 x2 x3 xo) 2 = stepC x0 x1 x2 (row xo 2) := by
  unfold out0_B_4 kernelRun0_B
  dsimp only
  sl_unfold_words
  simp (disch := decide) only [row_hit, row_miss, ld_row (r := 0), ld_row (r := 1), ld_row (r := 2),
    View.readAt_eq_ld, Memref.IsWhole.read_unread, View.ld_unit_zero (S := S1000x256) hz2, View.ld_unit_zero (S := S1x128) hz2,
    View.ld_unit_zero (S := S1000x1) hz2]
  exact ⟨rfl, rfl, rfl⟩

/-- At the last point rows 4, 5 and 6 are read off the three rows accumulated by then. -/
theorem out_C (hc0 : ¬cond0_0 i) (hc1 : cond0_1 i) :
    row (out0_C_4 c i arg1 h1 arg2 h2 arg3 h3 arg4 h4 arg5 h5 hc0 hc1 x0 x1 x2 x3 xo) 4
        = k0_pay8 (stepN x0 x1 x2 (row xo 0)) (stepS x0 x1 x2 x3 (row xo 1)) (stepC x0 x1 x2 (row xo 2))
    ∧ row (out0_C_4 c i arg1 h1 arg2 h2 arg3 h3 arg4 h4 arg5 h5 hc0 hc1 x0 x1 x2 x3 xo) 5
        = k0_pay9 (stepN x0 x1 x2 (row xo 0)) (stepS x0 x1 x2 x3 (row xo 1))
    ∧ row (out0_C_4 c i arg1 h1 arg2 h2 arg3 h3 arg4 h4 arg5 h5 hc0 hc1 x0 x1 x2 x3 xo) 6 = k0_pay10 (stepN x0 x1 x2 (row xo 0)) := by
  unfold out0_C_4 kernelRun0_C
  dsimp only
  sl_unfold_words
  simp (disch := decide) only [row_hit, row_miss, readCov_row (r := 0), readCov_row (r := 1), readCov_row (r := 2),
    ld_row (r := 0), ld_row (r := 1), ld_row (r := 2),
    View.readAt_eq_ld, Memref.IsWhole.read_unread, View.ld_unit_zero (S := S1000x256) hz2, View.ld_unit_zero (S := S1x128) hz2,
    View.ld_unit_zero (S := S1000x1) hz2]
  exact ⟨rfl, rfl, rfl⟩

end Out

end Cert.Proof.KernelBody

end
-- ==== Proof.Spec.lean ====
/- The mathematics both sides compute: the largest entry of a row of 256, the first column that attains it, whether a
   value lies in a half-open bin, and the three sums over rows. -/
module

public import Idealize.ShloMosaic.PureOps.Ideal
public import Idealize.ShloMosaic.Lib.Pointwise

@[expose] public section

noncomputable section

namespace Cert.Proof.Spec

/-- The largest entry of a row: the confidence. -/
def top (p : Fin 256 → EReal) : EReal := (Finset.univ : Finset (Fin 256)).fold max ⊥ p

theorem top_eq_sup (p : Fin 256 → EReal) : top p = Finset.univ.sup p := rfl

theorem le_top (p : Fin 256 → EReal) (k : Fin 256) : p k ≤ top p := Finset.le_sup (f := p) (Finset.mem_univ k)

theorem exists_eq_top (p : Fin 256 → EReal) : ∃ k, p k = top p := by
  obtain ⟨k, -, hk⟩ := Finset.exists_mem_eq_sup Finset.univ ⟨(0 : Fin 256), Finset.mem_univ _⟩ p
  exact ⟨k, hk.symm⟩

/-- Column k is the first that attains the largest entry. -/
def IsFirst (p : Fin 256 → EReal) (k : Fin 256) : Prop := p k = top p ∧ ∀ j, p j = top p → k ≤ j

theorem exists_first (p : Fin 256 → EReal) : ∃ k, IsFirst p k := by
  classical
  obtain ⟨k, hk⟩ := exists_eq_top p
  have hne : (Finset.univ.filter fun j => p j = top p).Nonempty := ⟨k, by simp [hk]⟩
  refine ⟨_, (Finset.mem_filter.mp (Finset.min'_mem _ hne)).2, fun j hj => Finset.min'_le _ _ (by simp [hj])⟩

/-- The first column that attains the largest entry: the prediction. -/
def first (p : Fin 256 → EReal) : Fin 256 := (exists_first p).choose

theorem first_spec (p : Fin 256 → EReal) : IsFirst p (first p) := (exists_first p).choose_spec

theorem eq_first {p : Fin 256 → EReal} {k : Fin 256} (h : IsFirst p k) : k = first p :=
  le_antisymm (h.2 _ (first_spec p).1) ((first_spec p).2 _ h.1)

/-- A column number as a signed word is itself. -/
theorem toInt_col (k : Fin 256) : (BitVec.ofNat 32 k.val).toInt = (k.val : Int) := by
  have := k.isLt
  have e : (BitVec.ofNat 32 k.val).toNat = k.val := by rw [BitVec.toNat_ofNat]; omega
  rw [BitVec.toInt_eq_toNat_of_lt (by omega), e]

/-- One if the prediction is the label, else zero. -/
def hit (p : Fin 256 → EReal) (l : BitVec 32) : EReal := if BitVec.ofNat 32 (first p).val = l then 1 else 0

/-- One if a value lies in the bin from a (excluded) to b (included), else zero. -/
def tick (a b v : EReal) : EReal := if a < v ∧ v ≤ b then 1 else 0

/-- Row i of the probabilities, at any number (rows past the array are zeros). -/
def rowsOf (A : (⟨2, ![1048576, 256]⟩ : Idealize.ShloMosaic.Shape).Idx → EReal) (i : ℕ) : Fin 256 → EReal :=
  if h : i < 1048576 then fun k => A (Idealize.ShloMosaic.ix2 ⟨i, h⟩ k) else fun _ => 0

/-- Label i, at any number. -/
def labsOf (L : (⟨1, ![1048576]⟩ : Idealize.ShloMosaic.Shape).Idx → BitVec 32) (i : ℕ) : BitVec 32 :=
  if h : i < 1048576 then L (Idealize.ShloMosaic.ix1 ⟨i, h⟩) else 0#32

section Sums

variable (p : ℕ → Fin 256 → EReal) (l : ℕ → BitVec 32) (a b : EReal) (n : ℕ)

/-- How many of the first n rows have their confidence in the bin from a to b. -/
def cnt : EReal := ∑ i ∈ Finset.range n, tick a b (top (p i))
/-- How many of those are predicted right. -/
def hits : EReal := ∑ i ∈ Finset.range n, tick a b (top (p i)) * hit (p i) (l i)
/-- Their summed confidence. -/
def confs : EReal := ∑ i ∈ Finset.range n, tick a b (top (p i)) * top (p i)

end Sums

/-- The lower edge of bin b. -/
def lower (b : ℕ) : EReal := (((b : ℝ) / 15 : ℝ) : EReal)
/-- The upper edge of bin b. -/
def upper (b : ℕ) : EReal := ((((b : ℝ) + 1) / 15 : ℝ) : EReal)

/-- A bin's contribution to the calibration error: the gap between its summed confidence and its hits, zero where it is empty. -/
def gap (N S C : EReal) : EReal := if 0 < N then max (C - S) (-(C - S)) else 0

end Cert.Proof.Spec

end
-- ==== Proof.KernelBlock.lean ====
/- One block of a thousand rows at the ideal values: what the kernel adds to its three accumulated rows. -/
module

public import proofs.«01_k».proof.Proof.KernelBody
public import proofs.«01_k».proof.Proof.Spec
public import Idealize.ShloMosaic.PureOps.Ideal.Laws
public import Idealize.ShloMosaic.Lib.IdealHost

@[expose] public section

set_option maxRecDepth 16384

noncomputable section

namespace Cert.Proof.KernelBlock

open Idealize.ShloMosaic Idealize.ShloMosaic.TcCoe Idealize.SL.Sem
open Cert.KernelIdeal Cert.KernelIdeal.Gen Cert.Proof.Spec Cert.Proof.KernelBody

variable (x : Vec Ideal S1000x256 .f32) (lab : Vec Ideal S1000x1 .i32) (lo hi : Vec Ideal S1x128 .f32)

/-- Row r of a block. -/
def brow (r : Fin 1000) : Fin 256 → EReal := fun k => x (ix2 r k)

theorem ofBits_neg_inf : Ideal.ofBits .f32 0xFF800000#32 = ⊥ := by simp [Ideal.ofBits, Ideal.ieee]

/-- A one-bit word read as a number is one or zero. -/
theorem sitofp_bit (b : Bool) : FloatOps.sitofp (F := Ideal) FTy.f32 (BitVec.setWidth 32 (BitVec.ofBool b)) = if b then (1 : EReal) else 0 := by
  cases b
  · show (((0 : Int) : ℝ) : EReal) = _
    simp
  · show (((1 : Int) : ℝ) : EReal) = _
    simp

/-- The two comparisons of a value with a bin's edges, read as a number. -/
theorem word_tick (a b v : EReal) :
    FloatOps.sitofp (F := Ideal) FTy.f32 (BitVec.setWidth 32 (IntOp.andi (BitVec.ofBool (decide (a < v))) (BitVec.ofBool (decide (v ≤ b)))))
      = tick a b v := by
  have e : IntOp.andi (BitVec.ofBool (decide (a < v))) (BitVec.ofBool (decide (v ≤ b))) = BitVec.ofBool (decide (a < v) && decide (v ≤ b)) := by
    cases decide (a < v) <;> cases decide (v ≤ b) <;> rfl
  rw [e, sitofp_bit]
  unfold tick
  by_cases h1 : a < v <;> by_cases h2 : v ≤ b <;> simp [h1, h2]

/-- The least word of a family, from a start. -/
theorem fold_minsi (init : BitVec 32) (g : Fin 256 → BitVec 32) (s : Finset (Fin 256)) :
    (s.fold IntOp.minsi init g).toInt ≤ init.toInt ∧ (∀ k ∈ s, (s.fold IntOp.minsi init g).toInt ≤ (g k).toInt)
      ∧ (s.fold IntOp.minsi init g = init ∨ ∃ k ∈ s, s.fold IntOp.minsi init g = g k) := by
  classical
  induction s using Finset.induction_on with
  | empty => simp
  | insert a s ha ih =>
    rw [Finset.fold_insert ha]
    generalize s.fold IntOp.minsi init g = r at ih
    obtain ⟨h1, h2, h3⟩ := ih
    have hm : IntOp.minsi (g a) r = g a ∧ (g a).toInt ≤ r.toInt ∨ IntOp.minsi (g a) r = r ∧ r.toInt ≤ (g a).toInt := by
      unfold IntOp.minsi
      split
      · rename_i h; left; refine ⟨rfl, le_of_lt ?_⟩; simpa [BitVec.sle, BitVec.slt] using h
      · rename_i h; right; refine ⟨rfl, ?_⟩
        simp [BitVec.sle, BitVec.slt] at h
        omega
    rcases hm with ⟨e, hle⟩ | ⟨e, hle⟩
    · rw [e]
      refine ⟨hle.trans h1, fun k hk => ?_, Or.inr ⟨a, Finset.mem_insert_self _ _, rfl⟩⟩
      rcases Finset.mem_insert.mp hk with rfl | hk
      · exact le_rfl
      · exact hle.trans (h2 k hk)
    · rw [e]
      refine ⟨h1, fun k hk => ?_, h3.imp id fun ⟨k, hk, he⟩ => ⟨k, Finset.mem_insert_of_mem hk, he⟩⟩
      rcases Finset.mem_insert.mp hk with rfl | hk
      · exact hle
      · exact h2 k hk

/-- The least column number among those attaining the row's maximum, 256 standing for the others, is the first such column. -/
theorem least_col (p : Fin 256 → EReal) :
    (Finset.univ : Finset (Fin 256)).fold IntOp.minsi 2147483647#32 (fun k => if p k = top p then BitVec.ofNat 32 k.val else 256#32)
      = BitVec.ofNat 32 (first p).val := by
  classical
  obtain ⟨-, h2, h3⟩ := fold_minsi 2147483647#32 (fun k => if p k = top p then BitVec.ofNat 32 k.val else 256#32) Finset.univ
  generalize (Finset.univ : Finset (Fin 256)).fold IntOp.minsi 2147483647#32 _ = r at h2 h3
  have hf := h2 (first p) (Finset.mem_univ _)
  rw [if_pos (first_spec p).1, toInt_col] at hf
  have hl := (first p).isLt
  have i1 : (2147483647#32 : BitVec 32).toInt = 2147483647 := by decide
  have i2 : (256#32 : BitVec 32).toInt = 256 := by decide
  rcases h3 with rfl | ⟨k, -, hk⟩
  · omega
  · by_cases hp : p k = top p
    · rw [if_pos hp] at hk
      have := (first_spec p).2 k hp
      rw [hk, toInt_col] at hf
      rw [hk, show k = first p from le_antisymm (Fin.le_def.mpr (by omega)) this]
    · rw [if_neg hp] at hk
      rw [hk] at hf
      omega

/-- The row maximum. -/
theorem pay12_eq (r : Fin 1000) (z : Fin 1) : k0_pay12 x (ix2 r z) = top (brow x r) := by
  unfold k0_pay12
  simp only [pointwise]
  rw [ofBits_neg_inf]
  rfl

theorem pay13_eq (r : Fin 1000) (l : Fin 128) :
    k0_pay13 x lo hi (ix2 r l) = tick (lo (ix2 0 l)) (hi (ix2 0 l)) (top (brow x r)) := by
  unfold k0_pay13
  simp only [pointwise]
  show FloatOps.sitofp (F := Ideal) FTy.f32 (BitVec.setWidth 32 (IntOp.andi (BitVec.ofBool (decide (lo (ix2 0 l) < k0_pay12 x (ix2 r 0))))
    (BitVec.ofBool (decide (k0_pay12 x (ix2 r 0) ≤ hi (ix2 0 l)))))) = _
  rw [pay12_eq]
  exact word_tick _ _ _

theorem pay14_eq (l : Fin 128) :
    k0_pay14 x lo hi (ix2 0 l) = ∑ r : Fin 1000, tick (lo (ix2 0 l)) (hi (ix2 0 l)) (top (brow x r)) := by
  unfold k0_pay14
  simp only [pointwise, pay13_eq]

theorem pay16_eq (l : Fin 128) :
    k0_pay16 x lo hi (ix2 0 l) = ∑ r : Fin 1000, tick (lo (ix2 0 l)) (hi (ix2 0 l)) (top (brow x r)) * top (brow x r) := by
  unfold k0_pay16
  simp only [pointwise, pay13_eq]
  refine Finset.sum_congr rfl fun r _ => ?_
  show tick (lo (ix2 0 l)) (hi (ix2 0 l)) (top (brow x r)) * k0_pay12 x (ix2 r 0) = _
  rw [pay12_eq]

theorem pay15_eq (l : Fin 128) :
    k0_pay15 x lab lo hi (ix2 0 l)
      = ∑ r : Fin 1000, tick (lo (ix2 0 l)) (hi (ix2 0 l)) (top (brow x r)) * hit (brow x r) (lab (ix2 r 0)) := by
  unfold k0_pay15
  simp only [pointwise, pay13_eq]
  refine Finset.sum_congr rfl fun r _ => ?_
  refine congrArg _ (Eq.trans (congrArg (fun w => FloatOps.sitofp (F := Ideal) FTy.f32 (BitVec.setWidth 32
    (IntOp.cmpi .eq w (lab (ix2 r 0))))) (?_ : _ = BitVec.ofNat 32 (first (brow x r)).val)) ?_)
  · refine (Finset.fold_congr fun k _ => ?_).trans (least_col (brow x r))
    have e : k0_pay12 x (ix2 r 0) = top (brow x r) := pay12_eq x r 0
    by_cases h : brow x r k = top (brow x r)
    · exact (if_pos (h.trans e.symm)).trans ((congrArg (BitVec.ofNat 32) (by show 0 * 256 + k.val = k.val; omega)).trans (if_pos h).symm)
    · exact (if_neg fun h' => h (h'.trans e)).trans (if_neg h).symm
  · show FloatOps.sitofp (F := Ideal) FTy.f32 (BitVec.setWidth 32 (BitVec.ofBool (BitVec.ofNat 32 (first (brow x r)).val == lab (ix2 r 0)))) = _
    rw [sitofp_bit]
    unfold hit
    simp only [beq_iff_eq]

end Cert.Proof.KernelBlock

end
-- ==== Proof.KernelFold.lean ====
/- What the kernel's output array holds after the last grid point, at any float semantics: three rows accumulated
   block by block over the 1048 grid points, and the three result rows read off them at the last point. -/
module

public import proofs.«01_k».proof.Proof.KernelBody

@[expose] public section

set_option maxRecDepth 16384

noncomputable section

namespace Cert.Proof.KernelFold

open Idealize.ShloMosaic Idealize.ShloMosaic.TcCoe Idealize.ShloMosaic.Tactic Idealize.SL.Sem
open Cert.KernelIdeal Cert.KernelIdeal.Gen Cert.Proof.KernelBody
open Idealize.ShloMosaic.Pipeline (Dat)

variable {F : FTy → Type} [FloatOps F]
variable (m : (ℓ : Loc nD τ sig) → Buf (Elt F) ℓ) (c : Dev nD)

/-- The counts accumulated after point n. -/
def accN : (n : ℕ) → n < cfg0.N → Vec F S1x128 .f32
  | 0, h => stepN (iblk m c 0 ⟨0, h⟩) (iblk m c 1 ⟨0, h⟩) (X0_2 m c ⟨0, h⟩) (row k0_pay11 0)
  | n + 1, h => stepN (iblk m c 0 ⟨n + 1, h⟩) (iblk m c 1 ⟨n + 1, h⟩) (X0_2 m c ⟨n + 1, h⟩) (accN n (Nat.lt_of_succ_lt h))

/-- The hits accumulated after point n. -/
def accS : (n : ℕ) → n < cfg0.N → Vec F S1x128 .f32
  | 0, h => stepS (iblk m c 0 ⟨0, h⟩) (iblk m c 1 ⟨0, h⟩) (X0_2 m c ⟨0, h⟩) (X0_3 m c ⟨0, h⟩) (row k0_pay11 1)
  | n + 1, h => stepS (iblk m c 0 ⟨n + 1, h⟩) (iblk m c 1 ⟨n + 1, h⟩) (X0_2 m c ⟨n + 1, h⟩) (X0_3 m c ⟨n + 1, h⟩)
      (accS n (Nat.lt_of_succ_lt h))

/-- The confidences accumulated after point n. -/
def accC : (n : ℕ) → n < cfg0.N → Vec F S1x128 .f32
  | 0, h => stepC (iblk m c 0 ⟨0, h⟩) (iblk m c 1 ⟨0, h⟩) (X0_2 m c ⟨0, h⟩) (row k0_pay11 2)
  | n + 1, h => stepC (iblk m c 0 ⟨n + 1, h⟩) (iblk m c 1 ⟨n + 1, h⟩) (X0_2 m c ⟨n + 1, h⟩) (accC n (Nat.lt_of_succ_lt h))

/-- Before the last point the output block's first three rows are the accumulated ones. -/
theorem outs_eq : ∀ (n : ℕ) (h : n < cfg0.N), n < 1047 →
    row (outsAt0 m c n h) 0 = accN m c n h ∧ row (outsAt0 m c n h) 1 = accS m c n h ∧ row (outsAt0 m c n h) 2 = accC m c n h
  | 0, h, _ => by
    rw [outsAt0_A m c ⟨0, h⟩ rfl (by dsimp only; omega)]
    exact out_A ..
  | n + 1, h, hn => by
    obtain ⟨e0, e1, e2⟩ := outs_eq n (Nat.lt_of_succ_lt h) (by omega)
    rw [outsAt0_B m c ⟨n + 1, h⟩ (by dsimp only; omega) (by dsimp only; omega)]
    obtain ⟨o0, o1, o2⟩ := out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (iblk m c 0 ⟨n + 1, h⟩) (iblk m c 1 ⟨n + 1, h⟩) (X0_2 m c ⟨n + 1, h⟩) (X0_3 m c ⟨n + 1, h⟩)
      (outsAt0 m c n (Nat.lt_of_succ_lt h))
      (fun e => by have := (hcond0_0 ⟨n + 1, h⟩).mp e; dsimp only at this; omega)
      (fun e => by have := (hcond0_1 ⟨n + 1, h⟩).mp e; dsimp only at this; omega)
    rw [e0] at o0; rw [e1] at o1; rw [e2] at o2
    exact ⟨o0, o1, o2⟩

/-- At the last point rows 4, 5 and 6 are the results computed from the accumulated rows. -/
theorem last_rows (n : ℕ) (h : n + 1 < cfg0.N) (hn : n + 1 = 1047) :
    row (outsAt0 m c (n + 1) h) 4 = k0_pay8 (accN m c (n + 1) h) (accS m c (n + 1) h) (accC m c (n + 1) h)
    ∧ row (outsAt0 m c (n + 1) h) 5 = k0_pay9 (accN m c (n + 1) h) (accS m c (n + 1) h)
    ∧ row (outsAt0 m c (n + 1) h) 6 = k0_pay10 (accN m c (n + 1) h) := by
  obtain ⟨e0, e1, e2⟩ := outs_eq m c n (Nat.lt_of_succ_lt h) (by omega)
  rw [outsAt0_C m c ⟨n + 1, h⟩ (by dsimp only; omega) (by dsimp only; omega)]
  obtain ⟨o0, o1, o2⟩ := out_C c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (iblk m c 0 ⟨n + 1, h⟩) (iblk m c 1 ⟨n + 1, h⟩) (X0_2 m c ⟨n + 1, h⟩) (X0_3 m c ⟨n + 1, h⟩)
      (outsAt0 m c n (Nat.lt_of_succ_lt h))
      (fun e => by have := (hcond0_0 ⟨n + 1, h⟩).mp e; dsimp only at this; omega)
      ((hcond0_1 ⟨n + 1, h⟩).mpr (by dsimp only; omega))
  rw [e0, e1, e2] at o0; rw [e0, e1] at o1; rw [e0] at o2
  exact ⟨o0, o1, o2⟩

variable (t : Fin cfg0.N)

/-- What the output block holds after point t. -/
abbrev result : Vec F S8x128 .f32 := outsAt0 m c t.val t.isLt

/-- After the last point rows 4, 5 and 6 are the results computed from the accumulated rows. -/
theorem result_rows (ht : t.val = 1047) :
    row (result m c t) 4 = k0_pay8 (accN m c t.val t.isLt) (accS m c t.val t.isLt) (accC m c t.val t.isLt)
    ∧ row (result m c t) 5 = k0_pay9 (accN m c t.val t.isLt) (accS m c t.val t.isLt)
    ∧ row (result m c t) 6 = k0_pay10 (accN m c t.val t.isLt) := by
  obtain ⟨n, h⟩ := t
  cases n with
  | zero => exact absurd ht (by dsimp only; omega)
  | succ n => exact last_rows m c n h ht

/-- The output's block is at the array's origin at every point. -/
theorem index4 : ∀ (t : Fin cfg0.N) (a : Fin 2), win0_4.index t a = 0 := fun _ a => by fin_cases a <;> rfl

/-- The one write-back, at the last point, writes the whole output array. -/
theorem flushed_eq (ht : t.val = 1047) (t' : Fin cfg0.N) (hf : (cfg0.win 4).flush t' = true) :
    (dats m 0 c).flushed 4 t'
      = ((cfg0.win 4).blk t').view.read (Elt F) (result m c t : Buf (Elt F) ((c : Thread nD τ).loc main_v14)) := by
  have hN : cfg0.N = 1048 := N_0
  obtain rfl : t' = t := Fin.ext (by
    have := (flush0_4 t').mp hf
    have := t'.isLt
    omega)
  show (cfg0.win 4).cut (grid0.coords t') ((dats m 0 c).after 4 t') = _
  rw [after0_4]
  have hz' : (fun a => win0_4.index t' a * main_v14.ty.shape.size a) = fun _ => 0 := funext fun a => by
    rw [index4 t' a]; exact Nat.zero_mul _
  exact (Memref.read_access_unit_zero (Elt F) main_v14 hz' (fun a => by rw [congrFun hz' a]; simp) (result m c t')).symm

/-- So the output array ends holding it. -/
theorem final_o (ht : t.val = 1047) :
    (dats m 0 c).arrAt 4 cfg0.N = (result m c t : Buf (Elt F) ((c : Thread nD τ).loc main_v14)) :=
  (dats m 0 c).arrAt_eq_of_cover 4 (result m c t) (flushed_eq m c t ht) fun i =>
    ⟨t, (flush0_4 t).mpr (by omega), by
      show i ∈ ((View.whole main_v14).slice (win0_4.rect t)).set
      rw [View.set_slice_whole, Rect.mem_set_unit]
      intro a
      have h0 : (i 0 : Nat) < 8 := (i 0).isLt
      have h1 : (i 1 : Nat) < 128 := (i 1).isLt
      match a with
      | ⟨0, _⟩ =>
        show win0_4.index t 0 * 8 ≤ (i 0 : Nat) ∧ (i 0 : Nat) < win0_4.index t 0 * 8 + 8
        rw [index4 t 0]
        omega
      | ⟨1, _⟩ =>
        show win0_4.index t 1 * 128 ≤ (i 1 : Nat) ∧ (i 1 : Nat) < win0_4.index t 1 * 128 + 128
        rw [index4 t 1]
        omega⟩

end Cert.Proof.KernelFold

end
-- ==== Proof.KernelHost.lean ====
/- What the kernel's grid finds in its windows, at any float semantics: the two rows of bin edges and the column of
   labels the host computes first, and each point's block of rows. -/
module

public import proofs.«01_k».proof.Proof.KernelBody
public import Idealize.ShloMosaic.Lib.StableHlo.Run

@[expose] public section

set_option maxRecDepth 16384

noncomputable section

namespace Cert.Proof.KernelHost

open Idealize.ShloMosaic Idealize.ShloMosaic.TcCoe Idealize.ShloMosaic.StableHlo Idealize.SL.Sem
open Cert.KernelIdeal Cert.KernelIdeal.Gen

variable {F : FTy → Type} [FloatOps F]

/-- The steps 0/15 … 14/15. -/
def steps : Vec F S15 .f32 := Host.divf (sitofp .f32 (iotaInDim S15 32 0)) (broadcastInDim S15 ![] bcast_S_S15 (constant S_ .f32 0x41700000#32))

/-- The first fifteen of the sixteen evenly spaced edges from 0 to 1. -/
def inner : Vec F S15 .f32 :=
  addf (mulf (broadcastInDim S15 ![0] bcast_S1_S15_0 (shapeCast S1 (constant S_ .f32 0x00000000#32 : Vec F S_ .f32) shapeCasts_S_S1))
      (subf (broadcastInDim S15 ![] bcast_S_S15 (constant S_ .f32 0x3F800000#32)) steps))
    (mulf (broadcastInDim S15 ![0] bcast_S1_S15_0 (shapeCast S1 (constant S_ .f32 0x3F800000#32 : Vec F S_ .f32) shapeCasts_S_S1)) steps)

/-- The sixteen edges. -/
def edges : Vec F S16 .f32 :=
  concatenate S16 0 [⟨S15, inner⟩, ⟨S1, broadcastInDim S1 ![] bcast_S_S1 (constant S_ .f32 0x3F800000#32 : Vec F S_ .f32)⟩]
    concatenates_S15_S1_S16_d0

/-- The position the edges are written at. -/
def origin : Vec F S2 .i32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

/-- The lower edges, one lane a bin; 2 in the lanes past the fifteenth. -/
def lo : Vec F S1x128 .f32 :=
  Host.scatter scatter_S1x128_S2_S15_0_0_01_0 (fun _ b => b) (broadcastInDim S1x128 ![] bcast_S_S1x128 (constant S_ .f32 0x40000000#32 : Vec F S_ .f32))
    (origin (F := F)) (extractStridedSlice S15 ![0] (edges (F := F)) slices_S16_S15_0)

/-- The upper edges; −1 in the lanes past the fifteenth. -/
def hi : Vec F S1x128 .f32 :=
  Host.scatter scatter_S1x128_S2_S15_0_0_01_0 (fun _ b => b) (broadcastInDim S1x128 ![] bcast_S_S1x128 (constant S_ .f32 0xBF800000#32 : Vec F S_ .f32))
    (origin (F := F)) (extractStridedSlice S15 ![1] (edges (F := F)) slices_S16_S15_1)

variable (m : (ℓ : Loc nD τ sig) → Buf (Elt F) ℓ) (c : Dev nD)

theorem V_v6 : V m c main_v6 = lo (F := F) := by
  unfold V V0
  generalize (fun b => m (c, b) : Valuation τ sig (Elt F)) = X
  simp only [List.flatten_cons, List.flatten_nil, List.append_nil, List.cons_append, List.nil_append]
  after_results
  rfl

theorem V_v12 : V m c main_v12 = hi (F := F) := by
  unfold V V0
  generalize (fun b => m (c, b) : Valuation τ sig (Elt F)) = X
  simp only [List.flatten_cons, List.flatten_nil, List.append_nil, List.cons_append, List.nil_append]
  after_results
  rfl

theorem V_v13 : V m c main_v13 = shapeCast S1048576x1 (m ((c : Thread nD τ).loc main_arg1) : Vec F S1048576 .i32) shapeCasts_S1048576_S1048576x1 := by
  show StableHlo.after (List.flatten [hostOps0, hostOps0_1, hostOps0_2]) (fun b => m (c, b)) (Proc.devRef .tc main_v13)
    = shapeCast S1048576x1 ((fun b => m (c, b) : Valuation τ sig (Elt F)) (Proc.devRef .tc main_arg1)) shapeCasts_S1048576_S1048576x1
  generalize (fun b => m (c, b) : Valuation τ sig (Elt F)) = X
  simp only [List.flatten_cons, List.flatten_nil, List.append_nil, List.cons_append, List.nil_append]
  after_results
  rfl

variable (t : Fin cfg0.N)

theorem index0 : ∀ (t : Fin cfg0.N) (a : Fin 2), win0_0.index t a = 0 := fun _ a => by fin_cases a <;> rfl
theorem index1 : ∀ (t : Fin cfg0.N) (a : Fin 2), win0_1.index t a = 0 := fun _ a => by fin_cases a <;> rfl

/-- Every point finds the lower edges. -/
theorem blk0 : (iblk m c 0 t : Vec F S1x128 .f32) = lo (F := F) := by
  rw [← V_v6 m c]
  unfold iblk
  have hz' : (fun a => win0_0.index t a * main_v6.ty.shape.size a) = fun _ => 0 := funext fun a => by
    rw [index0 t a]; exact Nat.zero_mul _
  exact Memref.read_access_unit_zero (Elt F) main_v6 hz' (fun a => by rw [congrFun hz' a]; simp) (V m c main_v6)

/-- Every point finds the upper edges. -/
theorem blk1 : (iblk m c 1 t : Vec F S1x128 .f32) = hi (F := F) := by
  rw [← V_v12 m c]
  unfold iblk
  have hz' : (fun a => win0_1.index t a * main_v12.ty.shape.size a) = fun _ => 0 := funext fun a => by
    rw [index1 t a]; exact Nat.zero_mul _
  exact Memref.read_access_unit_zero (Elt F) main_v12 hz' (fun a => by rw [congrFun hz' a]; simp) (V m c main_v12)

theorem index2 : ∀ t : Fin cfg0.N, (cfg0.win 2).index t 0 = t.val ∧ (cfg0.win 2).index t 1 = 0 := by decide +kernel
theorem index3 : ∀ t : Fin cfg0.N, (cfg0.win 3).index t 0 = t.val ∧ (cfg0.win 3).index t 1 = 0 := by decide +kernel

/-- Row r of point t is a row below the ragged end. -/
theorem row_lt (r : Fin 1000) : 1000 * t.val + r.val < 1048576 := by
  have : t.val < 1048 := lt_of_lt_of_eq t.isLt N_0
  omega

/-- Point t's rows are rows 1000 t … 1000 t + 999. -/
theorem blk2 (r : Fin 1000) (k : Fin 256) :
    (X0_2 m c t : Vec F S1000x256 .f32) (ix2 r k)
      = (m ((c : Thread nD τ).loc main_arg0) : Vec F S1048576x256 .f32) (ix2 ⟨1000 * t.val + r.val, row_lt t r⟩ k) := by
  unfold X0_2 Pipeline.Window.fill
  rw [dif_pos (moved0_2 t _)]
  unfold iblk
  rw [View.read_apply]
  show V m c main_arg0 _ = _
  rw [V_main_arg0]
  congr 1
  funext a
  apply Fin.ext
  match a with
  | ⟨0, _⟩ => show (cfg0.win 2).index t 0 * 1000 + 1 * r.val = 1000 * t.val + r.val; rw [(index2 t).1]; omega
  | ⟨1, _⟩ => show (cfg0.win 2).index t 1 * 256 + 1 * k.val = k.val; rw [(index2 t).2]; omega

/-- And their labels. -/
theorem blk3 (r : Fin 1000) :
    (X0_3 m c t : Vec F S1000x1 .i32) (ix2 r 0)
      = (m ((c : Thread nD τ).loc main_arg1) : Vec F S1048576 .i32) (ix1 ⟨1000 * t.val + r.val, row_lt t r⟩) := by
  unfold X0_3 Pipeline.Window.fill
  rw [dif_pos (moved0_3 t _)]
  unfold iblk
  rw [View.read_apply]
  show V m c main_v13 _ = _
  rw [V_v13]
  simp only [pointwise]
  congr 1
  funext a
  apply Fin.ext
  match a with
  | ⟨0, _⟩ => show (cfg0.win 3).index t 0 * 1000 + 1 * r.val = 1000 * t.val + r.val; rw [(index3 t).1]; omega

end Cert.Proof.KernelHost

end
-- ==== Proof.KernelTotals.lean ====
/- What the three accumulated rows hold, on the extended reals: after point n, in each lane, the sums over the first
   1000 (n + 1) rows, between that lane's two edges. -/
module

public import proofs.«01_k».proof.Proof.KernelBlock
public import proofs.«01_k».proof.Proof.KernelFold
public import proofs.«01_k».proof.Proof.KernelHost

@[expose] public section

set_option maxRecDepth 16384

noncomputable section

namespace Cert.Proof.KernelTotals

open Idealize.ShloMosaic Idealize.ShloMosaic.TcCoe Idealize.SL.Sem
open Cert.KernelIdeal Cert.KernelIdeal.Gen Cert.Proof.Spec Cert.Proof.KernelBody Cert.Proof.KernelBlock Cert.Proof.KernelHost Cert.Proof.KernelFold

/-- A block of sums added to the sums before it. -/
theorem sum_blocks (f : ℕ → EReal) (n : ℕ) (g : Fin 1000 → EReal) (hg : ∀ r : Fin 1000, g r = f (1000 * n + r.val)) :
    (∑ i ∈ Finset.range (1000 * n), f i) + ∑ r : Fin 1000, g r = ∑ i ∈ Finset.range (1000 * (n + 1)), f i := by
  rw [Nat.mul_succ, Finset.sum_range_add, Finset.sum_range (fun r => f (1000 * n + r))]
  exact congrArg _ (Finset.sum_congr rfl fun r _ => hg r)

variable (m : (ℓ : Loc nD τ sig) → Buf (Elt Ideal) ℓ) (c : Dev nD)

/-- The probabilities' rows. -/
abbrev P : ℕ → Fin 256 → EReal := rowsOf (m ((c : Thread nD τ).loc main_arg0) : Vec Ideal S1048576x256 .f32)
/-- The labels. -/
abbrev L : ℕ → BitVec 32 := labsOf (m ((c : Thread nD τ).loc main_arg1) : Vec Ideal S1048576 .i32)

theorem brow_eq (t : Fin cfg0.N) (r : Fin 1000) : brow (X0_2 m c t) r = P m c (1000 * t.val + r.val) := by
  funext k
  unfold P rowsOf
  rw [dif_pos (row_lt t r)]
  exact blk2 m c t r k

theorem lab_eq (t : Fin cfg0.N) (r : Fin 1000) : (X0_3 m c t : Vec Ideal S1000x1 .i32) (ix2 r 0) = L m c (1000 * t.val + r.val) := by
  unfold L labsOf
  rw [dif_pos (row_lt t r)]
  exact blk3 m c t r

section Steps

variable (x0 x1 : Vec Ideal S1x128 .f32) (x2 : Vec Ideal S1000x256 .f32) (x3 : Vec Ideal S1000x1 .i32) (a : Vec Ideal S1x128 .f32) (l : Fin 128)

theorem stepN_apply : stepN x0 x1 x2 a (ix2 0 l)
    = a (ix2 0 l) + ∑ r : Fin 1000, tick (x0 (ix2 0 l)) (x1 (ix2 0 l)) (top (brow x2 r)) := by
  rw [← pay14_eq]
  unfold stepN k0_pay1
  simp only [pointwise]

theorem stepS_apply : stepS x0 x1 x2 x3 a (ix2 0 l)
    = a (ix2 0 l) + ∑ r : Fin 1000, tick (x0 (ix2 0 l)) (x1 (ix2 0 l)) (top (brow x2 r)) * hit (brow x2 r) (x3 (ix2 r 0)) := by
  rw [← pay15_eq]
  unfold stepS k0_pay2
  simp only [pointwise]

theorem stepC_apply : stepC x0 x1 x2 a (ix2 0 l)
    = a (ix2 0 l) + ∑ r : Fin 1000, tick (x0 (ix2 0 l)) (x1 (ix2 0 l)) (top (brow x2 r)) * top (brow x2 r) := by
  rw [← pay16_eq]
  unfold stepC k0_pay3
  simp only [pointwise]

/-- The accumulating rows start from zeros. -/
theorem start_apply (r : Fin 8) : row (F := Ideal) (k0_pay11 (F := Ideal)) r (ix2 0 l) = 0 := by
  unfold row k0_pay11
  simp only [pointwise]

end Steps

variable (l : Fin 128)

theorem accN_eq : ∀ (n : ℕ) (h : n < cfg0.N),
    accN m c n h (ix2 0 l) = cnt (P m c) (lo (F := Ideal) (ix2 0 l)) (hi (F := Ideal) (ix2 0 l)) (1000 * (n + 1))
  | 0, h => by
    unfold accN
    rw [stepN_apply, start_apply, blk0, blk1]
    exact sum_blocks (fun i => tick (lo (F := Ideal) (ix2 0 l)) (hi (F := Ideal) (ix2 0 l)) (top (P m c i))) 0 _ fun r => by
      rw [brow_eq]
  | n + 1, h => by
    unfold accN
    rw [stepN_apply, blk0, blk1, accN_eq n (Nat.lt_of_succ_lt h)]
    exact sum_blocks (fun i => tick (lo (F := Ideal) (ix2 0 l)) (hi (F := Ideal) (ix2 0 l)) (top (P m c i))) (n + 1) _ fun r => by
      rw [brow_eq]

theorem accS_eq : ∀ (n : ℕ) (h : n < cfg0.N),
    accS m c n h (ix2 0 l) = hits (P m c) (L m c) (lo (F := Ideal) (ix2 0 l)) (hi (F := Ideal) (ix2 0 l)) (1000 * (n + 1))
  | 0, h => by
    unfold accS
    rw [stepS_apply, start_apply, blk0, blk1]
    exact sum_blocks (fun i => tick (lo (F := Ideal) (ix2 0 l)) (hi (F := Ideal) (ix2 0 l)) (top (P m c i)) * hit (P m c i) (L m c i)) 0 _ fun r => by
      rw [brow_eq, lab_eq]
  | n + 1, h => by
    unfold accS
    rw [stepS_apply, blk0, blk1, accS_eq n (Nat.lt_of_succ_lt h)]
    exact sum_blocks (fun i => tick (lo (F := Ideal) (ix2 0 l)) (hi (F := Ideal) (ix2 0 l)) (top (P m c i)) * hit (P m c i) (L m c i)) (n + 1) _
      fun r => by rw [brow_eq, lab_eq]

theorem accC_eq : ∀ (n : ℕ) (h : n < cfg0.N),
    accC m c n h (ix2 0 l) = confs (P m c) (lo (F := Ideal) (ix2 0 l)) (hi (F := Ideal) (ix2 0 l)) (1000 * (n + 1))
  | 0, h => by
    unfold accC
    rw [stepC_apply, start_apply, blk0, blk1]
    exact sum_blocks (fun i => tick (lo (F := Ideal) (ix2 0 l)) (hi (F := Ideal) (ix2 0 l)) (top (P m c i)) * top (P m c i)) 0 _ fun r => by
      rw [brow_eq]
  | n + 1, h => by
    unfold accC
    rw [stepC_apply, blk0, blk1, accC_eq n (Nat.lt_of_succ_lt h)]
    exact sum_blocks (fun i => tick (lo (F := Ideal) (ix2 0 l)) (hi (F := Ideal) (ix2 0 l)) (top (P m c i)) * top (P m c i)) (n + 1) _ fun r => by
      rw [brow_eq]

end Cert.Proof.KernelTotals

end
-- ==== Proof.KernelEdges.lean ====
/- The bin edges the kernel's host code lays out, on the extended reals: lane b of the two rows holds b/15 and (b + 1)/15
   for the fifteen bins, and 2 and −1, an empty bin, in the lanes past them. -/
module

public import proofs.«01_k».proof.Proof.KernelHost
public import proofs.«01_k».proof.Proof.Spec
public import Idealize.ShloMosaic.Lib.IdealHost
public import Idealize.ShloMosaic.Lib.Routing.OpsOne

@[expose] public section

set_option maxRecDepth 16384

noncomputable section

namespace Cert.Proof.KernelEdges

open Idealize.ShloMosaic
open Cert.KernelIdeal Cert.KernelIdeal.Gen Cert.Proof.Spec Cert.Proof.KernelHost

theorem ofBits_two : Ideal.ofBits .f32 0x40000000#32 = ((2 : ℝ) : EReal) := by
  simp [Ideal.ofBits, Ideal.ieee, -EReal.coe_mul]; norm_num
theorem ofBits_minus_one : Ideal.ofBits .f32 0xBF800000#32 = ((-1 : ℝ) : EReal) := by
  simp [Ideal.ofBits, Ideal.ieee, -EReal.coe_mul]; norm_num
theorem ofBits_fifteen : Ideal.ofBits .f32 0x41700000#32 = ((15 : ℝ) : EReal) := by
  simp [Ideal.ofBits, Ideal.ieee, -EReal.coe_mul]; norm_num

theorem steps_apply (j : Fin 15) : steps (F := Ideal) (ix1 j) = lower j.val := by
  unfold steps
  simp only [pointwise]
  rw [ofBits_fifteen, Ideal.div_coe (by norm_num)]
  have e : (BitVec.ofNat 32 j.val).toInt = (j.val : Int) := by
    have := j.isLt
    have e : (BitVec.ofNat 32 j.val).toNat = j.val := by rw [BitVec.toNat_ofNat]; omega
    rw [BitVec.toInt_eq_toNat_of_lt (by omega), e]
  show (((BitVec.ofNat 32 j.val).toInt : ℝ) : EReal) * _ = _
  rw [e, ← EReal.coe_mul]
  unfold lower
  congr 1
  push_cast
  ring

theorem inner_apply (j : Fin 15) : KernelHost.inner (F := Ideal) (ix1 j) = lower j.val := by
  unfold KernelHost.inner
  simp only [pointwise, steps_apply]
  rw [zero_mul, zero_add, one_mul]

theorem edges_apply (j : Fin 16) : edges (F := Ideal) (ix1 j) = lower j.val := by
  unfold edges
  simp only [pointwise, inner_apply]
  by_cases h : j.val < 15
  · rw [dif_pos h]
  · rw [dif_neg h]
    have := j.isLt
    rw [show j.val = 15 by omega]
    unfold lower
    norm_num

/-- The edges are written at the origin. -/
theorem origin_apply (q : Fin 2) : origin (F := Ideal) (ix1 q) = 0#32 := by
  unfold origin
  fin_cases q <;> simp [pointwise]

/-- Update k lands in lane k. -/
theorem lands (k : Fin 15) (l : Fin 128) :
    scatter_S1x128_S2_S15_0_0_01_0.resultIdx? (ix1 k) (origin (F := Ideal)) = some (ix2 0 l) ↔ k.val = l.val := by
  have hz : ∀ q : Fin 2, (origin (F := Ideal) (ix1 q)).toInt = 0 := fun q => by rw [origin_apply]; rfl
  have h0 : scatter_S1x128_S2_S15_0_0_01_0.window (ix1 k) 0 = 0 := rfl
  have h1 : scatter_S1x128_S2_S15_0_0_01_0.window (ix1 k) 1 = k.val := rfl
  have s : ∀ q : Fin 2, scatter_S1x128_S2_S15_0_0_01_0.start (ix1 k) (origin (F := Ideal)) q = 0 := fun q =>
    (Routing.start_pair scatter_S1x128_S2_S15_0_0_01_0 rfl rfl _ _ q).trans (hz q)
  rw [Routing.resultIdx?_eq_some]
  refine Fin.forall_fin_two.trans ?_
  rw [s, s, h0, h1]
  show (0 + ((0 : ℕ) : Int) = ((0 : ℕ) : Int) ∧ 0 + (k.val : Int) = (l.val : Int)) ↔ _
  omega

theorem lane (x : Vec Ideal S1x128 .f32) (u : Vec Ideal S15 .f32) (l : Fin 128) :
    Host.scatter scatter_S1x128_S2_S15_0_0_01_0 (fun _ b => b) x (origin (F := Ideal)) u (ix2 0 l)
      = if h : l.val < 15 then u (ix1 ⟨l.val, h⟩) else x (ix2 0 l) := by
  split
  · next h =>
    refine Routing.scatter_set_hit _ _ _ _ _ _ (fun k hk => ?_) (ix1 ⟨l.val, h⟩) ((lands ⟨l.val, h⟩ l).mpr rfl)
    obtain ⟨q, rfl⟩ : ∃ q : Fin 15, k = ix1 q := ⟨k 0, (ix1_eta k).symm⟩
    have := (lands _ l).mp hk
    exact congrArg (fun q => u (ix1 q)) (Fin.ext this)
  · next h =>
    refine Routing.scatter_set_miss _ _ _ _ _ fun k hk => h ?_
    obtain ⟨q, rfl⟩ : ∃ q : Fin 15, k = ix1 q := ⟨k 0, (ix1_eta k).symm⟩
    have := (lands _ l).mp hk
    have := q.isLt
    omega

theorem lo_apply (l : Fin 128) : lo (F := Ideal) (ix2 0 l) = if l.val < 15 then lower l.val else ((2 : ℝ) : EReal) := by
  unfold lo
  rw [lane]
  split
  · simp only [pointwise]
    exact (edges_apply _).trans (congrArg lower (Nat.zero_add _))
  · simp only [pointwise]
    exact ofBits_two

theorem lower_succ (b : ℕ) : lower (1 + b) = upper b := by
  unfold lower upper
  push_cast
  rw [add_comm]

theorem hi_apply (l : Fin 128) : hi (F := Ideal) (ix2 0 l) = if l.val < 15 then upper l.val else ((-1 : ℝ) : EReal) := by
  unfold hi
  rw [lane]
  split
  · simp only [pointwise]
    exact (edges_apply _).trans (lower_succ l.val)
  · simp only [pointwise]
    exact ofBits_minus_one

end Cert.Proof.KernelEdges

end
-- ==== Proof.KernelRun.lean ====
/- The kernel's run with its results named: the host's slices of the output array after the last grid point. -/
module

public import proofs.«01_k».proof.Proof.KernelFold
public import Idealize.ShloMosaic.Lib.StableHlo.Run
public import Idealize.ShloMosaic.Lib.Claim

@[expose] public section

set_option maxRecDepth 16384

noncomputable section

namespace Cert.Proof.KernelRun

open Idealize.ShloMosaic Idealize.ShloMosaic.TcCoe Idealize.ShloMosaic.StableHlo Idealize.SL.Sem
open Cert.KernelIdeal Cert.KernelIdeal.Gen Cert.Proof.KernelBody Cert.Proof.KernelFold
open Idealize.ShloMosaic.Pipeline (Dat)

variable {F : FTy → Type} [FloatOps F]
variable (m : (ℓ : Loc nD τ sig) → Buf (Elt F) ℓ) (ρ : Dev nD → PrngReg) (c : Dev nD)

/-- The first result as the host reads it off the output array. -/
def ece (x : Vec F S8x128 .f32) : Vec F S1 .f32 :=
  shapeCast S1 (extractStridedSlice S1x1 ![4, 0] x slices_S8x128_S1x1_4_0) shapeCasts_S1x1_S1
/-- The second. -/
def sums (x : Vec F S8x128 .f32) : Vec F S15 .f32 :=
  shapeCast S15 (extractStridedSlice S1x15 ![5, 0] x slices_S8x128_S1x15_5_0) shapeCasts_S1x15_S15
/-- The third. -/
def counts (x : Vec F S8x128 .f32) : Vec F S15 .f32 :=
  shapeCast S15 (extractStridedSlice S1x15 ![6, 0] x slices_S8x128_S1x15_6_0) shapeCasts_S1x15_S15

theorem W_v14 (t : Fin cfg0.N) (ht : t.val = 1047) :
    Pipeline.withArrays (cfgs 0).spec c (V0 m c) (fun w => (dats m 0 c).arrAt w (cfgs 0).N) (Proc.devRef .tc main_v14) = result m c t :=
  (Pipeline.withArrays_arr spec0 (by decide) c (V0 m c) (fun w => (dats m 0 c).arrAt w cfg0.N) 4).trans (final_o m c t ht)

theorem tail_ece (t : Fin cfg0.N) (ht : t.val = 1047) :
    Pipeline.afterTail₀ cfgs (dats m) 0 (V0 m) [hostOps1] c main_v16 = ece (result m c t) := by
  rw [← W_v14 m c t ht]
  unfold Pipeline.afterTail₀
  simp only [List.flatten_cons, List.flatten_nil, List.append_nil]
  generalize Pipeline.withArrays (cfgs 0).spec c (V0 m c) _ = X
  after_results
  rfl

theorem tail_sums (t : Fin cfg0.N) (ht : t.val = 1047) :
    Pipeline.afterTail₀ cfgs (dats m) 0 (V0 m) [hostOps1] c main_v18 = sums (result m c t) := by
  rw [← W_v14 m c t ht]
  unfold Pipeline.afterTail₀
  simp only [List.flatten_cons, List.flatten_nil, List.append_nil]
  generalize Pipeline.withArrays (cfgs 0).spec c (V0 m c) _ = X
  after_results
  rfl

theorem tail_counts (t : Fin cfg0.N) (ht : t.val = 1047) :
    Pipeline.afterTail₀ cfgs (dats m) 0 (V0 m) [hostOps1] c main_v20 = counts (result m c t) := by
  rw [← W_v14 m c t ht]
  unfold Pipeline.afterTail₀
  simp only [List.flatten_cons, List.flatten_nil, List.append_nil]
  generalize Pipeline.withArrays (cfgs 0).spec c (V0 m c) _ = X
  after_results
  rfl

/-- Every run ends with the three results read off the output array and the arguments unchanged. -/
theorem run (t : Fin cfg0.N) (ht : t.val = 1047) :
    θ_run defs (onTc (τ := τ) (main (F := F))) ⟨m, fun _ => 0, ρ⟩ (fun r => ∀ c : Dev nD,
      r.2.mem ((c.tc : Thread nD τ).loc main_v16) = ece (result m c t)
      ∧ r.2.mem ((c.tc : Thread nD τ).loc main_v18) = sums (result m c t)
      ∧ r.2.mem ((c.tc : Thread nD τ).loc main_v20) = counts (result m c t)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).2 main_v16 (Pipeline.mem_restRefs_of main_v16 (by decide) (by decide))).trans (tail_ece m c t ht),
     ((h.1 c).2 main_v18 (Pipeline.mem_restRefs_of main_v18 (by decide) (by decide))).trans (tail_sums m c t ht),
     ((h.1 c).2 main_v20 (Pipeline.mem_restRefs_of main_v20 (by decide) (by decide))).trans (tail_counts m c t ht),
     h.2 c⟩) (θ_run_and (run_main m ρ) (unchanged m ρ))

end Cert.Proof.KernelRun

end
-- ==== Proof.Lanes.lean ====
/- The sums of a bin, when every confidence is above 0 and at most 1: a count, and two reals that vanish with it. From
   this: dividing by the count and multiplying by it again changes nothing. -/
module

public import proofs.«01_k».proof.Proof.Spec
public import Idealize.ShloMosaic.Lib.IdealHost

@[expose] public section

noncomputable section

namespace Cert.Proof.Lanes

open Idealize.ShloMosaic Cert.Proof.Spec

/-- Every confidence of the first n rows is above 0 and at most 1. -/
def InUnit (p : ℕ → Fin 256 → EReal) (n : ℕ) : Prop := ∀ i < n, 0 < top (p i) ∧ top (p i) ≤ 1

/-- A confidence above 0 and at most 1 is a real number. -/
theorem real_of_unit {v : EReal} (h : 0 < v ∧ v ≤ 1) : ∃ r : ℝ, v = (r : EReal) ∧ 0 < r ∧ r ≤ 1 := by
  induction v with
  | bot => exact absurd h.1 (by simp)
  | top => exact absurd h.2 (not_le.mpr (by exact_mod_cast EReal.coe_lt_top 1))
  | coe r => exact ⟨r, rfl, by exact_mod_cast h.1, by exact_mod_cast h.2⟩

/-- A count, and two reals that vanish with it. -/
def Shape (N S C : EReal) : Prop := ∃ (n : ℕ) (s c : ℝ), N = ((n : ℝ) : EReal) ∧ S = (s : EReal) ∧ C = (c : EReal) ∧ (n = 0 → s = 0 ∧ c = 0)

theorem shape (p : ℕ → Fin 256 → EReal) (l : ℕ → BitVec 32) (a b : EReal) :
    ∀ n : ℕ, InUnit p n → Shape (cnt p a b n) (hits p l a b n) (confs p a b n)
  | 0, _ => ⟨0, 0, 0, by simp [cnt], by simp [hits], by simp [confs], fun _ => ⟨rfl, rfl⟩⟩
  | n + 1, h => by
    obtain ⟨k, s, c, eN, eS, eC, hz⟩ := shape p l a b n fun i hi => h i (Nat.lt_succ_of_lt hi)
    obtain ⟨v, ev, -, -⟩ := real_of_unit (h n (Nat.lt_succ_self n))
    have sN : cnt p a b (n + 1) = cnt p a b n + tick a b (top (p n)) := Finset.sum_range_succ _ _
    have sS : hits p l a b (n + 1) = hits p l a b n + tick a b (top (p n)) * hit (p n) (l n) := Finset.sum_range_succ _ _
    have sC : confs p a b (n + 1) = confs p a b n + tick a b (top (p n)) * top (p n) := Finset.sum_range_succ _ _
    rw [sN, sS, sC, eN, eS, eC, ev]
    obtain ⟨w, ew⟩ : ∃ w : ℝ, hit (p n) (l n) = (w : EReal) := by
      unfold hit
      split
      · exact ⟨1, by simp⟩
      · exact ⟨0, by simp⟩
    rw [ew]
    unfold tick
    split
    · exact ⟨k + 1, s + w, c + v, by push_cast; rfl, by rw [one_mul]; push_cast; rfl, by rw [one_mul]; push_cast; rfl, fun e => by omega⟩
    · exact ⟨k, s, c, by rw [add_zero], by rw [zero_mul, add_zero], by rw [zero_mul, add_zero], hz⟩

variable {N S C : EReal} (h : Shape N S C)
include h

/-- The count, zero where it is not above zero. -/
theorem count_eq : (if 0 < N then N else 0) = N := by
  obtain ⟨n, s, c, rfl, rfl, rfl, hz⟩ := h
  split
  · rfl
  · next hn =>
    have : ¬ (0 : ℝ) < n := fun q => hn (by exact_mod_cast q)
    have e : n = 0 := by simpa using this
    simp [e]

/-- The average over the count, times the count. -/
theorem avg_eq : (if 0 < N then Ideal.div S (max N 1) * N else 0) = S := by
  obtain ⟨n, s, c, rfl, rfl, rfl, hz⟩ := h
  rcases Nat.eq_zero_or_pos n with e | e
  · rw [if_neg (by simp [e]), (hz e).1]; simp
  · have h1 : (1 : ℝ) ≤ n := by exact_mod_cast e
    have h0 : (n : ℝ) ≠ 0 := by positivity
    rw [if_pos (by exact_mod_cast e), max_eq_left (by exact_mod_cast h1), Ideal.div_coe h0, ← EReal.coe_mul, ← EReal.coe_mul]
    congr 1
    field_simp

/-- The gap of the averages, times the count. -/
theorem gap_eq : (if 0 < N then max (Ideal.div C (max N 1) - Ideal.div S (max N 1)) (-(Ideal.div C (max N 1) - Ideal.div S (max N 1))) * N else 0)
    = gap N S C := by
  unfold gap
  obtain ⟨n, s, c, rfl, rfl, rfl, hz⟩ := h
  rcases Nat.eq_zero_or_pos n with e | e
  · rw [if_neg (by simp [e]), if_neg (by simp [e])]
  · have h1 : (1 : ℝ) ≤ n := by exact_mod_cast e
    have h0 : (n : ℝ) ≠ 0 := by positivity
    have hp : (0 : EReal) < ((n : ℝ) : EReal) := by exact_mod_cast e
    have hx : max ((n : ℝ) : EReal) 1 = ((n : ℝ) : EReal) := max_eq_left (by exact_mod_cast h1)
    rw [if_pos hp, if_pos hp, hx, Ideal.div_coe h0, Ideal.div_coe h0]
    have hm : ∀ x : ℝ, max (x : EReal) (-(x : EReal)) = ((|x| : ℝ) : EReal) := fun x => by
      rw [← EReal.coe_neg, abs_eq_max_neg]
      rcases le_total x (-x) with q | q
      · rw [max_eq_right (by exact_mod_cast q), max_eq_right q]
      · rw [max_eq_left (by exact_mod_cast q), max_eq_left q]
    rw [← EReal.coe_mul, ← EReal.coe_mul, ← EReal.coe_sub, ← EReal.coe_sub, hm, hm, ← EReal.coe_mul]
    congr 1
    rw [← sub_mul, abs_mul, abs_of_pos (by positivity : (0 : ℝ) < 1 / n)]
    field_simp

end Cert.Proof.Lanes

end
-- ==== Proof.KernelResults.lean ====
/- The kernel's three results, on the extended reals, where every confidence read is above 0 and at most 1: each bin's
   count and hits, and the sum of the bins' gaps. -/
module

public import proofs.«01_k».proof.Proof.KernelTotals
public import proofs.«01_k».proof.Proof.KernelEdges
public import proofs.«01_k».proof.Proof.KernelRun
public import proofs.«01_k».proof.Proof.Lanes

@[expose] public section

set_option maxRecDepth 16384

noncomputable section

namespace Cert.Proof.KernelResults

open Idealize.ShloMosaic Idealize.ShloMosaic.TcCoe Idealize.SL.Sem
open Cert.KernelIdeal Cert.KernelIdeal.Gen Cert.Proof.Spec Cert.Proof.KernelBody Cert.Proof.KernelHost Cert.Proof.KernelFold Cert.Proof.KernelTotals
open Cert.Proof.KernelEdges

section Lane

variable (n s q : Vec Ideal S1x128 .f32) (l : Fin 128)

theorem pay10_apply : k0_pay10 n (ix2 0 l) = if 0 < n (ix2 0 l) then n (ix2 0 l) else 0 := by
  unfold k0_pay10 k0_pay7 k0_pay4
  simp only [pointwise]

theorem pay9_apply : k0_pay9 n s (ix2 0 l)
    = if 0 < n (ix2 0 l) then Ideal.div (s (ix2 0 l)) (max (n (ix2 0 l)) 1) * n (ix2 0 l) else 0 := by
  unfold k0_pay9 k0_pay7 k0_pay6 k0_pay5 k0_pay4
  simp only [pointwise]

theorem pay8_apply : k0_pay8 n s q (ix2 0 l)
    = ∑ k : Fin 128, if 0 < n (ix2 0 k) then
        max (Ideal.div (q (ix2 0 k)) (max (n (ix2 0 k)) 1) - Ideal.div (s (ix2 0 k)) (max (n (ix2 0 k)) 1))
          (-(Ideal.div (q (ix2 0 k)) (max (n (ix2 0 k)) 1) - Ideal.div (s (ix2 0 k)) (max (n (ix2 0 k)) 1))) * n (ix2 0 k)
        else 0 := by
  unfold k0_pay8 k0_pay7 k0_pay6 k0_pay5 k0_pay4
  simp only [pointwise]
  exact Fin.sum_univ_one _

end Lane

theorem counts_apply (x : Vec Ideal S8x128 .f32) (b : Fin 15) : KernelRun.counts x (ix1 b) = row x 6 (ix2 0 ⟨b.val, by omega⟩) := by
  unfold KernelRun.counts
  simp only [pointwise]
  exact congrArg (fun k => x (ix2 6 k)) (Fin.ext (Nat.zero_add _))

theorem sums_apply (x : Vec Ideal S8x128 .f32) (b : Fin 15) : KernelRun.sums x (ix1 b) = row x 5 (ix2 0 ⟨b.val, by omega⟩) := by
  unfold KernelRun.sums
  simp only [pointwise]
  exact congrArg (fun k => x (ix2 5 k)) (Fin.ext (Nat.zero_add _))

theorem ece_apply (x : Vec Ideal S8x128 .f32) (z : Fin 1) : KernelRun.ece x (ix1 z) = row x 4 (ix2 0 0) := by
  unfold KernelRun.ece
  simp only [pointwise]
  rfl

/-! ## The lanes -/

variable (m : (ℓ : Loc nD τ sig) → Buf (Elt Ideal) ℓ) (c : Dev nD)

/-- The count of a lane, its hits, its summed confidence, over the rows read. -/
abbrev laneN (l : Fin 128) : EReal := cnt (P m c) (lo (F := Ideal) (ix2 0 l)) (hi (F := Ideal) (ix2 0 l)) 1048000
abbrev laneS (l : Fin 128) : EReal := hits (P m c) (L m c) (lo (F := Ideal) (ix2 0 l)) (hi (F := Ideal) (ix2 0 l)) 1048000
abbrev laneC (l : Fin 128) : EReal := confs (P m c) (lo (F := Ideal) (ix2 0 l)) (hi (F := Ideal) (ix2 0 l)) 1048000

/-- The edges of a bin's lane are the bin's. -/
theorem lane_bin (b : Fin 15) (hb : b.val < 128) :
    laneN m c ⟨b.val, hb⟩ = cnt (P m c) (lower b.val) (upper b.val) 1048000
    ∧ laneS m c ⟨b.val, hb⟩ = hits (P m c) (L m c) (lower b.val) (upper b.val) 1048000
    ∧ laneC m c ⟨b.val, hb⟩ = confs (P m c) (lower b.val) (upper b.val) 1048000 := by
  unfold laneN laneS laneC
  rw [lo_apply, hi_apply, if_pos b.isLt, if_pos b.isLt]
  exact ⟨rfl, rfl, rfl⟩

/-- No row lands in a lane past the bins. -/
theorem lane_empty (l : Fin 128) (hl : ¬ l.val < 15) : laneN m c l = 0 := by
  unfold laneN cnt
  rw [lo_apply, hi_apply, if_neg hl, if_neg hl]
  refine Finset.sum_eq_zero fun i _ => ?_
  unfold tick
  rw [if_neg]
  rintro ⟨h1, h2⟩
  have h3 : (2 : ℝ) < -1 := EReal.coe_lt_coe_iff.mp (lt_of_lt_of_le h1 h2)
  norm_num at h3

variable (t : Fin cfg0.N) (ht : t.val = 1047) (h : Lanes.InUnit (P m c) 1048000)
include ht

theorem last_n : 1000 * (t.val + 1) = 1048000 := by omega

theorem accN_last (l : Fin 128) : accN m c t.val t.isLt (ix2 0 l) = laneN m c l := by
  rw [accN_eq, last_n t ht]
theorem accS_last (l : Fin 128) : accS m c t.val t.isLt (ix2 0 l) = laneS m c l := by
  rw [accS_eq, last_n t ht]
theorem accC_last (l : Fin 128) : accC m c t.val t.isLt (ix2 0 l) = laneC m c l := by
  rw [accC_eq, last_n t ht]

include h

/-- The counts. -/
theorem counts_eq (b : Fin 15) : KernelRun.counts (result m c t) (ix1 b) = cnt (P m c) (lower b.val) (upper b.val) 1048000 := by
  rw [counts_apply, (result_rows m c t ht).2.2, pay10_apply, accN_last m c t ht, Lanes.count_eq (Lanes.shape (P m c) (L m c) _ _ 1048000 h)]
  exact (lane_bin m c b _).1

/-- The hits. -/
theorem sums_eq (b : Fin 15) : KernelRun.sums (result m c t) (ix1 b) = hits (P m c) (L m c) (lower b.val) (upper b.val) 1048000 := by
  rw [sums_apply, (result_rows m c t ht).2.1, pay9_apply, accN_last m c t ht, accS_last m c t ht,
    Lanes.avg_eq (Lanes.shape (P m c) (L m c) _ _ 1048000 h)]
  exact (lane_bin m c b _).2.1

/-- The calibration error. -/
theorem ece_eq (z : Fin 1) : KernelRun.ece (result m c t) (ix1 z)
    = ∑ b : Fin 15, gap (cnt (P m c) (lower b.val) (upper b.val) 1048000) (hits (P m c) (L m c) (lower b.val) (upper b.val) 1048000)
        (confs (P m c) (lower b.val) (upper b.val) 1048000) := by
  rw [ece_apply, (result_rows m c t ht).1, pay8_apply]
  have e : ∀ k : Fin 128, (if 0 < accN m c t.val t.isLt (ix2 0 k) then
        max (Ideal.div (accC m c t.val t.isLt (ix2 0 k)) (max (accN m c t.val t.isLt (ix2 0 k)) 1) - Ideal.div (accS m c t.val t.isLt (ix2 0 k)) (max (accN m c t.val t.isLt (ix2 0 k)) 1))
          (-(Ideal.div (accC m c t.val t.isLt (ix2 0 k)) (max (accN m c t.val t.isLt (ix2 0 k)) 1) - Ideal.div (accS m c t.val t.isLt (ix2 0 k)) (max (accN m c t.val t.isLt (ix2 0 k)) 1))) * accN m c t.val t.isLt (ix2 0 k)
        else 0) = gap (laneN m c k) (laneS m c k) (laneC m c k) := fun k => by
    rw [accN_last m c t ht, accS_last m c t ht, accC_last m c t ht]
    exact Lanes.gap_eq (Lanes.shape (P m c) (L m c) _ _ 1048000 h)
  rw [Finset.sum_congr rfl fun k _ => e k]
  refine (Fin.sum_univ_add (a := 15) (b := 113) fun k => gap (laneN m c k) (laneS m c k) (laneC m c k)).trans ?_
  rw [Finset.sum_eq_zero (s := (Finset.univ : Finset (Fin 113))) fun k _ => ?_, add_zero]
  · refine Finset.sum_congr rfl fun b _ => ?_
    obtain ⟨e1, e2, e3⟩ := lane_bin m c b (by omega)
    rw [← e1, ← e2, ← e3]
    rfl
  · unfold gap
    rw [if_neg]
    rw [lane_empty m c _ (by show ¬ (15 + k.val) < 15; omega)]
    exact lt_irrefl _

end Cert.Proof.KernelResults

end
-- ==== Proof.RowMax.lean ====
/- The maximum over a row as the host computes it: the largest entry. -/
module

public import proofs.«01_k».proof.Proof.Spec
public import Idealize.ShloMosaic.Lib.IdealHost
public import Idealize.ShloMosaic.Lib.KernelVsHost

@[expose] public section

set_option maxRecDepth 16384

noncomputable section

namespace Cert.Proof.RowMax

open Idealize.ShloMosaic Cert.Proof.Spec

/-- A constant broadcast to any shape reads the constant everywhere. -/
theorem splat {s t : Shape} {φ : FTy} (dims : Fin s.rank → Fin t.rank) (h : s.BroadcastsInDim t dims) (b : BitVec φ.bits) (j : t.Idx) :
    broadcastInDim t dims h (constant (F := Ideal) s φ b) j = FloatOps.ofBits φ b := rfl

/-- The host's maximum over each row of the first 1048000, from minus infinity. -/
theorem rowmax (A : FVec Ideal (⟨2, ![1048576, 256]⟩ : Shape) .f32) (hs : (⟨2, ![1048576, 256]⟩ : Shape).Slices ![0, 0] ⟨2, ![1048000, 256]⟩)
    (hr : (⟨2, ![1048000, 256]⟩ : Shape).ReducesTo [1] ⟨1, ![1048000]⟩) (hu : 0 < (⟨0, ![]⟩ : Shape).numel) (i : Fin 1048000) :
    Host.reduce (FloatOps.maximumf (F := Ideal)) (extractStridedSlice ⟨2, ![1048000, 256]⟩ ![0, 0] A hs) (constant ⟨0, ![]⟩ .f32 0xFF800000#32) hr hu (ix1 i)
      = top (rowsOf A i.val) := by
  simp only [pointwise]
  rw [show Ideal.ofBits .f32 4286578688#32 = ⊥ by simp [Ideal.ofBits, Ideal.ieee]]
  unfold top rowsOf
  rw [dif_pos (lt_trans i.isLt (by norm_num))]
  refine Finset.fold_congr fun k _ => congrArg A ?_
  funext a
  apply Fin.ext
  match a with
  | ⟨0, _⟩ => exact Nat.zero_add _
  | ⟨1, _⟩ => exact Nat.zero_add _

end Cert.Proof.RowMax

end
-- ==== Proof.Bins.lean ====
/- The bin of a confidence: for a confidence above 0 and at most 1, rounding fifteen times it up and stepping back by one
   gives the bin whose edges it lies between. -/
module

public import proofs.«01_k».proof.Proof.Lanes

@[expose] public section

noncomputable section

namespace Cert.Proof.Bins

open Idealize.ShloMosaic Cert.Proof.Spec

/-- The bin's word, of fifteen times the confidence rounded up. -/
def clip (x : EReal) : BitVec 32 := IntOp.minsi 14#32 (IntOp.maxsi 0#32 (Ideal.fptosi 32 x - 1#32))

theorem clip_nat : ∀ k : Fin 15, IntOp.minsi 14#32 (IntOp.maxsi 0#32 (BitVec.ofInt 32 ((k.val : Int) + 1) - 1#32)) = BitVec.ofNat 32 k.val := by
  decide

theorem toInt_bin : ∀ k : Fin 15, (BitVec.ofNat 32 k.val).toInt = (k.val : Int) := by decide

/-- The bin of a confidence. -/
theorem clip_eq (b : Fin 15) {v : EReal} (h : 0 < v ∧ v ≤ 1) :
    (clip (Ideal.liftRound Int.ceil (v * ((15 : ℝ) : EReal)))).toInt = (b.val : Int) ↔ lower b.val < v ∧ v ≤ upper b.val := by
  obtain ⟨r, rfl, h0, h1⟩ := Lanes.real_of_unit h
  obtain ⟨k, hk⟩ : ∃ k : Fin 15, ⌈r * 15⌉ = (k.val : Int) + 1 := by
    have l0 : 0 < ⌈r * 15⌉ := Int.ceil_pos.mpr (by positivity)
    have l1 : ⌈r * 15⌉ ≤ 15 := Int.ceil_le.mpr (by push_cast; linarith)
    exact ⟨⟨(⌈r * 15⌉ - 1).toNat, by omega⟩, by dsimp only; omega⟩
  have e : clip (Ideal.liftRound Int.ceil ((r : EReal) * ((15 : ℝ) : EReal))) = BitVec.ofNat 32 k.val := by
    rw [← clip_nat k, ← EReal.coe_mul]
    unfold clip
    congr 3
    show BitVec.ofInt 32 (max (-(2 ^ (32 - 1) : Nat)) (min ((2 ^ (32 - 1) : Nat) - 1) (if (0 : ℝ) ≤ ((⌈r * 15⌉ : Int) : ℝ) then ⌊((⌈r * 15⌉ : Int) : ℝ)⌋ else ⌈((⌈r * 15⌉ : Int) : ℝ)⌉))) = _
    rw [Int.floor_intCast, Int.ceil_intCast, ite_self, hk]
    congr 1
    have := k.isLt
    push_cast
    omega
  rw [e, toInt_bin k]
  have hc := Int.ceil_eq_iff.mp hk
  have g : ((k.val : Int) = (b.val : Int)) ↔ ⌈r * 15⌉ = (b.val : Int) + 1 := by rw [hk]; omega
  rw [g, Int.ceil_eq_iff]
  unfold lower upper
  rw [EReal.coe_lt_coe_iff, EReal.coe_le_coe_iff, div_lt_iff₀ (by norm_num), le_div_iff₀ (by norm_num)]
  push_cast
  rw [add_sub_cancel_right]

/-- So the sum over the rows of a bin is the sum over all rows, weighted. -/
theorem bin_tick (b : Fin 15) {v : EReal} (h : 0 < v ∧ v ≤ 1) (u : EReal) :
    (if (clip (Ideal.liftRound Int.ceil (v * ((15 : ℝ) : EReal)))).toInt = (b.val : Int) then u else 0)
      = tick (lower b.val) (upper b.val) v * u := by
  unfold tick
  by_cases g : lower b.val < v ∧ v ≤ upper b.val
  · rw [if_pos g, if_pos ((clip_eq b h).mpr g), one_mul]
  · rw [if_neg g, if_neg (mt (clip_eq b h).mp g), zero_mul]

end Cert.Proof.Bins

end
-- ==== Proof.RefValue.lean ====
/- The reference's three results, on the extended reals, where every confidence read is above 0 and at most 1: each bin's
   count and hits, and the sum of the bins' gaps. -/
module

public import proofs.«01_k».proof.Proof.RefRun
public import proofs.«01_k».proof.Proof.RowMax
public import proofs.«01_k».proof.Proof.Bins
public import Idealize.ShloMosaic.Lib.Routing.OpsOne

@[expose] public section

set_option maxRecDepth 16384

noncomputable section

namespace Cert.Proof.RefValue

open Idealize.ShloMosaic
open Cert.ReferenceIdeal Cert.ReferenceIdeal.Gen Cert.Proof.Spec Cert.Proof.RefRun

variable (A : FVec Ideal S1048576x256 .f32) (L : IVec S1048576 32)

theorem conf_apply (i : Fin 1048000) : conf A (ix1 i) = top (rowsOf A i.val) :=
  RowMax.rowmax A slices_S1048576x256_S1048000x256_0_0 reducesTo_S1048000x256_S1048000_d1 h_S_ i

theorem labs_apply (i : Fin 1048000) : labs L (ix1 i) = labsOf L i.val := by
  unfold labs labsOf
  rw [dif_pos (lt_trans i.isLt (by norm_num))]
  simp only [pointwise]
  refine congrArg L (congrArg ix1 (Fin.ext (Nat.zero_add _)))

theorem ofBits_fifteen : Ideal.ofBits .f32 0x41700000#32 = ((15 : ℝ) : EReal) := by
  simp [Ideal.ofBits, Ideal.ieee, -EReal.coe_mul]; norm_num

/-- The bin's word of a value, read at an entry of a vector of values. -/
theorem clip_vec {s u : Shape} (dims : Fin u.rank → Fin s.rank) (hb : u.BroadcastsInDim s dims) (x : FVec Ideal s .f32) (j : s.Idx) :
    minsi (broadcastInDim s dims hb (constantI u 32 14#32)) (maxsi (broadcastInDim s dims hb (constantI u 32 0#32))
      (subi (fptosi 32 (Host.ceil (mulf x (broadcastInDim s dims hb (constant u .f32 0x41700000#32)))))
        (broadcastInDim s dims hb (constantI u 32 1#32)))) j
      = Bins.clip (Ideal.liftRound Int.ceil (x j * Ideal.ofBits .f32 0x41700000#32)) := rfl

theorem clip_apply (i : Fin 1048000) : bin A (ix2 i 0) = Bins.clip (Ideal.liftRound Int.ceil (conf A (ix1 i) * Ideal.ofBits .f32 0x41700000#32)) := by
  unfold bin rawBin
  refine (broadcastInDim_apply _ _ _ (ix2 i 0) (ix1 i) fun a => ?_).trans (clip_vec _ _ _ _)
  obtain rfl : a = 0 := Subsingleton.elim (α := Fin 1) _ _
  exact (if_neg (by decide : ¬ (1048000 : ℕ) = 1)).symm

theorem bin_apply (i : Fin 1048000) : bin A (ix2 i 0) = Bins.clip (Ideal.liftRound Int.ceil (top (rowsOf A i.val) * ((15 : ℝ) : EReal))) := by
  rw [clip_apply, conf_apply, ofBits_fifteen]

/-- Update i lands in the bin its index word names. -/
theorem lands (w : IVec S1048000x1 32) (i : Fin 1048000) (b : Fin 15) :
    scatter_S15_S1048000x1_S1048000_n_0_0_1.resultIdx? (ix1 i) w = some (ix1 b) ↔ (w (ix2 i 0)).toInt = (b.val : Int) := by
  have hm : (0 : Fin 1) ∈ scatter_S15_S1048000x1_S1048000_n_0_0_1.scatterDimsToOperandDims := List.mem_singleton.2 rfl
  have hv : scatter_S15_S1048000x1_S1048000_n_0_0_1.indexVectorDim = 1 := rfl
  have hwin : scatter_S15_S1048000x1_S1048000_n_0_0_1.window (ix1 i) 0 = 0 := by
    unfold ScatterDims.window
    rw [dif_neg fun h => (of_decide_eq_true (List.mem_filter.1 h).2) (List.mem_singleton.2 rfl)]
  have hstart : scatter_S15_S1048000x1_S1048000_n_0_0_1.start (ix1 i) w 0 = (w (ix2 i 0)).toInt := by
    unfold ScatterDims.start
    rw [dif_pos hm]
    refine congrArg (fun q => (w q).toInt) (funext fun a => Fin.ext ?_)
    match a with
    | ⟨0, _⟩ =>
      unfold ScatterDims.siIdx
      rw [dif_neg (by rw [hv]; exact Nat.zero_ne_one)]
      unfold ScatterDims.siCoord
      simp only [Fin.val_cast]
      have e : ∀ X : Fin 1, (ix1 i X).val = i.val := fun X => by
        obtain rfl : X = 0 := Subsingleton.elim _ _
        rfl
      exact e _
    | ⟨1, _⟩ =>
      unfold ScatterDims.siIdx
      rw [dif_pos (by rw [hv])]
      show List.idxOf (0 : Fin 1) [0] = 0
      simp
  rw [Routing.resultIdx?_eq_some]
  constructor
  · intro h
    have h0 := h 0
    rw [hstart, hwin] at h0
    exact (add_zero _).symm.trans h0
  · intro h a
    obtain rfl : a = 0 := Subsingleton.elim (α := Fin 1) _ _
    rw [hstart, hwin, h]
    exact add_zero _

/-- A sum by index into any array, read at an element: the sum of the updates that land there. -/
theorem scatter_apply {s si : Shape} {n w : ℕ} (d : ScatterDims s si ⟨1, ![n]⟩) (x : FVec Ideal s .f32) (idx : IVec si w)
    (u : FVec Ideal ⟨1, ![n]⟩ .f32) (e : s.Idx) (q : Fin n → Prop) [DecidablePred q] (hq : ∀ i, d.resultIdx? (ix1 i) idx = some e ↔ q i) :
    Host.scatterAdd d x idx u e = x e + ∑ i : Fin n, if q i then u (ix1 i) else 0 := by
  unfold Host.scatterAdd
  rw [Ideal.hostScatterAdd_def]
  unfold Ideal.hostScatterAdd
  rw [Finset.sum_filter, sum_idx1]
  exact congrArg _ (Finset.sum_congr rfl fun i _ => if_congr (hq i) rfl rfl)

theorem zeros_apply (b : Fin 15) : zeros (F := Ideal) (ix1 b) = 0 := by
  unfold zeros
  rw [RowMax.splat]
  exact Ideal.ofBits_zero_f32

/-- The sum by bin, at a bin. -/
theorem byBin_apply (u : FVec Ideal S1048000 .f32) (b : Fin 15) :
    byBin A u (ix1 b) = ∑ i : Fin 1048000, if (bin A (ix2 i 0)).toInt = (b.val : Int) then u (ix1 i) else 0 := by
  unfold byBin
  rw [scatter_apply _ _ _ _ _ _ fun i => lands (bin A) i b, zeros_apply, zero_add]

end Cert.Proof.RefValue

end
-- ==== Proof.RefArgmax.lean ====
/- The reference's prediction: folding over a row the better of two (value, column) pairs gives the first column that
   attains the row's largest entry. -/
module

public import proofs.«01_k».proof.Proof.RefRun
public import proofs.«01_k».proof.Proof.RowMax

@[expose] public section

noncomputable section

namespace Cert.Proof.RefArgmax

open Idealize.ShloMosaic
open Cert.ReferenceIdeal Cert.ReferenceIdeal.Gen Cert.Proof.Spec Cert.Proof.RefRun

/-- Pair r is at least as good as pair x: a greater value, or the same one at a column no later. -/
def Beats (r x : EReal × BitVec 32) : Prop := x.1 < r.1 ∨ x.1 = r.1 ∧ r.2.toInt ≤ x.2.toInt

theorem beats_refl (x : EReal × BitVec 32) : Beats x x := Or.inr ⟨rfl, le_rfl⟩

theorem beats_trans {x y z : EReal × BitVec 32} (h : Beats x y) (h' : Beats y z) : Beats x z := by
  rcases h with h | ⟨h, g⟩ <;> rcases h' with h' | ⟨h', g'⟩
  · exact Or.inl (h'.trans h)
  · exact Or.inl (h' ▸ h)
  · exact Or.inl (h ▸ h')
  · exact Or.inr ⟨h'.trans h, g.trans g'⟩

/-- The body returns one of its two pairs, at least as good as both. -/
theorem body (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a1, a2⟩ := a
  obtain ⟨b1, b2⟩ := b
  have e : reducer_argmax_f32_i32 (F := Ideal) (a1, a2) (b1, b2)
      = (if b1 < a1 then a1 else b1, if b1 < a1 ∨ a1 = b1 ∧ a2.toInt < b2.toInt then a2 else b2) := by
    have hn : decide (a1 ≠ a1) = false := decide_eq_false fun w => w rfl
    have k1 : ∀ x : Bool, IntOp.ori (BitVec.ofBool x) (BitVec.ofBool false) = 1 ↔ x = true := by decide
    have k2 : ∀ x y z : Bool, IntOp.ori (IntOp.ori (BitVec.ofBool x) (BitVec.ofBool false)) (IntOp.andi (BitVec.ofBool y) (BitVec.ofBool z)) = 1
        ↔ x = true ∨ y = true ∧ z = true := by decide
    have c1 : IntOp.ori (FloatOps.cmpf (F := Ideal) (φ := .f32) .ogt a1 b1) (FloatOps.cmpf (F := Ideal) (φ := .f32) .une a1 a1) = 1 ↔ b1 < a1 := by
      simp only [pointwise]
      rw [hn, k1, decide_eq_true_eq]
    have c2 : IntOp.ori (IntOp.ori (FloatOps.cmpf (F := Ideal) (φ := .f32) .ogt a1 b1) (FloatOps.cmpf (F := Ideal) (φ := .f32) .une a1 a1))
        (IntOp.andi (FloatOps.cmpf (F := Ideal) (φ := .f32) .oeq a1 b1) (BitVec.ofBool (decide (a2.toInt < b2.toInt)))) = 1
          ↔ b1 < a1 ∨ a1 = b1 ∧ a2.toInt < b2.toInt := by
      simp only [pointwise]
      rw [hn, k2, decide_eq_true_eq, decide_eq_true_eq, decide_eq_true_eq]
    exact Prod.ext (if_congr c1 rfl rfl) (if_congr c2 rfl rfl)
  rw [e]
  by_cases h : b1 < a1
  · rw [if_pos h, if_pos (Or.inl h)]
    exact ⟨Or.inl rfl, beats_refl _, Or.inl h⟩
  · rw [if_neg h]
    by_cases g : a1 = b1 ∧ a2.toInt < b2.toInt
    · rw [if_pos (Or.inr g), g.1]
      exact ⟨Or.inl rfl, beats_refl _, Or.inr ⟨rfl, g.2.le⟩⟩
    · rw [if_neg (by tauto)]
      refine ⟨Or.inr rfl, ?_, beats_refl _⟩
      rcases (not_lt.mp h).lt_or_eq with q | q
      · exact Or.inl q
      · exact Or.inr ⟨q, not_lt.mp fun w => g ⟨q, w⟩⟩

/-- So its fold over a list returns one of the pairs, at least as good as all. -/
theorem fold (l : List (EReal × BitVec 32)) : ∀ a : EReal × BitVec 32,
    l.foldl (reducer_argmax_f32_i32 (F := Ideal)) a ∈ a :: l ∧ ∀ x ∈ a :: l, Beats (l.foldl (reducer_argmax_f32_i32 (F := Ideal)) a) x := by
  induction l with
  | nil => exact fun a => ⟨List.mem_singleton.mpr rfl, fun x hx => by rw [List.mem_singleton.mp hx]; exact beats_refl _⟩
  | cons b l ih =>
    intro a
    obtain ⟨h1, h2⟩ := ih (reducer_argmax_f32_i32 (F := Ideal) a b)
    obtain ⟨c1, c2, c3⟩ := body a b
    have hc := h2 _ List.mem_cons_self
    refine ⟨?_, fun x hx => ?_⟩
    · rcases List.mem_cons.mp h1 with q | q
      · rcases c1 with w | w
        · exact List.mem_cons.mpr (Or.inl (q.trans w))
        · exact List.mem_cons_of_mem _ (List.mem_cons.mpr (Or.inl (q.trans w)))
      · exact List.mem_cons_of_mem _ (List.mem_cons_of_mem _ q)
    · rcases List.mem_cons.mp hx with rfl | hx
      · exact beats_trans hc c2
      · rcases List.mem_cons.mp hx with rfl | hx
        · exact beats_trans hc c3
        · exact h2 x (List.mem_cons_of_mem _ hx)

/-- Over a row's pairs, from minus infinity, that is the first column of the largest entry. -/
theorem fold_row (p : Fin 256 → EReal) (hp : ⊥ < top p) (l : List (EReal × BitVec 32)) (z : BitVec 32)
    (hl : ∀ x, x ∈ l ↔ ∃ k : Fin 256, (p k, BitVec.ofNat 32 k.val) = x) :
    (l.foldl (reducer_argmax_f32_i32 (F := Ideal)) (⊥, z)).2 = BitVec.ofNat 32 (first p).val := by
  obtain ⟨h1, h2⟩ := fold l (⊥, z)
  generalize l.foldl (reducer_argmax_f32_i32 (F := Ideal)) (⊥, z) = r at h1 h2
  have hb : ∀ k : Fin 256, Beats r (p k, BitVec.ofNat 32 k.val) := fun k => h2 _ (List.mem_cons_of_mem _ ((hl _).mpr ⟨k, rfl⟩))
  have hge : ∀ k : Fin 256, p k ≤ r.1 := fun k => (hb k).elim le_of_lt fun q => q.1.le
  have hf := (first_spec p).1
  rcases List.mem_cons.mp h1 with rfl | q
  · exact absurd (hf ▸ hge (first p)) (not_le.mpr hp)
  · obtain ⟨k, rfl⟩ := (hl r).mp q
    have hk : p k = top p := le_antisymm (le_top p k) (hf ▸ hge (first p))
    refine congrArg (fun j : Fin 256 => BitVec.ofNat 32 j.val) (eq_first ⟨hk, fun j hj => ?_⟩)
    rcases hb j with w | ⟨-, w⟩
    · exact absurd w (not_lt.mpr (hk.le.trans hj.ge))
    · rw [toInt_col, toInt_col] at w
      exact Fin.le_def.mpr (by omega)

/-- The pairs folded at row i of an array of rows: the row's entries with their columns. -/
theorem mem_fiber {N : ℕ} (x : (⟨2, ![N, 256]⟩ : Shape).Idx → EReal) (h : (⟨2, ![N, 256]⟩ : Shape).ReducesTo [1] ⟨1, ![N]⟩) (i : Fin N)
    (q : EReal × BitVec 32) :
    q ∈ Host.argReduceFiber x (iotaInDim ⟨2, ![N, 256]⟩ 32 1) h (ix1 i) ↔ ∃ k : Fin 256, (x (ix2 i k), BitVec.ofNat 32 k.val) = q := by
  have hd : ∀ j, h.drop j = ix1 i ↔ ∃ k : Fin 256, ix2 i k = j := h.fiber_r2_a1 (ix1 i)
  unfold Host.argReduceFiber
  rw [List.mem_map]
  constructor
  · rintro ⟨n, hn, rfl⟩
    obtain ⟨k, hk⟩ := (hd _).mp (of_decide_eq_true (List.mem_filter.mp hn).2)
    exact ⟨k, by rw [← hk]; rfl⟩
  · rintro ⟨k, rfl⟩
    refine ⟨Shape.rowMajor _ (ix2 i k), List.mem_filter.mpr ⟨List.mem_finRange _, decide_eq_true ?_⟩, ?_⟩
    · rw [Equiv.symm_apply_apply]
      exact (hd _).mpr ⟨k, rfl⟩
    · rw [Equiv.symm_apply_apply]
      rfl

/-- The largest entry's column as the host computes it, at row i: the first. -/
theorem argmax_row {N : ℕ} (x : FVec Ideal ⟨2, ![N, 256]⟩ .f32) (h : (⟨2, ![N, 256]⟩ : Shape).ReducesTo [1] ⟨1, ![N]⟩)
    (hu : 0 < (⟨0, ![]⟩ : Shape).numel) (i : Fin N) (p : Fin 256 → EReal) (hx : (fun k => x (ix2 i k)) = p) (hp : ⊥ < top p) :
    (Host.argReduce (reducer_argmax_f32_i32 (F := Ideal)) x (iotaInDim ⟨2, ![N, 256]⟩ 32 1) (constant ⟨0, ![]⟩ .f32 0xFF800000#32)
      (constantI ⟨0, ![]⟩ 32 0#32) h hu (ix1 i)).2 = BitVec.ofNat 32 (first p).val := by
  subst hx
  rw [Ideal.argReduce_eq_reduce2, Host.reduce2_eq_foldl_fiber]
  have e : constant (F := Ideal) (⟨0, ![]⟩ : Shape) .f32 0xFF800000#32 (Shape.Idx.first hu) = (⊥ : EReal) := by
    show Ideal.ofBits .f32 0xFF800000#32 = ⊥
    simp [Ideal.ofBits, Ideal.ieee]
  rw [e]
  exact fold_row _ hp _ _ fun q => mem_fiber x h i q

/-- The same at the number of rows read. -/
theorem argmax_big (x : FVec Ideal S1048000x256 .f32) (i : Fin 1048000) (p : Fin 256 → EReal) (hx : (fun k => x (ix2 i k)) = p)
    (hp : ⊥ < top p) :
    (Host.argReduce (reducer_argmax_f32_i32 (F := Ideal)) x (iotaInDim S1048000x256 32 1) (constant S_ .f32 0xFF800000#32)
      (constantI S_ 32 0#32) reducesTo_S1048000x256_S1048000_d1 h_S_ (ix1 i)).2 = BitVec.ofNat 32 (first p).val := by
  have h2 := argmax_row (N := 1048000) x reducesTo_S1048000x256_S1048000_d1 h_S_ i p hx hp
  exact h2

/-- The prediction, as the fold it is. -/
theorem pred_eq (A : FVec Ideal S1048576x256 .f32) :
    pred A = fun j => (Host.argReduce (reducer_argmax_f32_i32 (F := Ideal)) (rows A) (iotaInDim S1048000x256 32 1)
      (constant S_ .f32 0xFF800000#32) (constantI S_ 32 0#32) reducesTo_S1048000x256_S1048000_d1 h_S_ j).2 := by
  delta pred
  with_reducible rfl

variable (A : FVec Ideal S1048576x256 .f32)

/-- Row i of the rows read. -/
theorem rows_apply (i : Fin 1048000) : (fun k => rows A (ix2 i k)) = rowsOf A i.val := by
  funext k
  unfold rows rowsOf
  rw [dif_pos (lt_trans i.isLt (by norm_num))]
  simp only [pointwise]
  refine congrArg A (funext fun a => Fin.ext ?_)
  match a with
  | ⟨0, _⟩ => exact Nat.zero_add _
  | ⟨1, _⟩ => exact Nat.zero_add _

/-- The prediction. -/
theorem pred_apply (i : Fin 1048000) (hp : ⊥ < top (rowsOf A i.val)) : pred A (ix1 i) = BitVec.ofNat 32 (first (rowsOf A i.val)).val := by
  exact (congrFun (pred_eq A) (ix1 i)).trans (argmax_big (rows A) i (rowsOf A i.val) (rows_apply A i) hp)

end Cert.Proof.RefArgmax

end
-- ==== Proof.RefResults.lean ====
/- The reference's three results, on the extended reals, where every confidence read is above 0 and at most 1: each bin's
   count and hits, and the sum of the bins' gaps. -/
module

public import proofs.«01_k».proof.Proof.RefValue
public import proofs.«01_k».proof.Proof.RefArgmax
public import proofs.«01_k».proof.Proof.Lanes

@[expose] public section

noncomputable section

namespace Cert.Proof.RefResults

open Idealize.ShloMosaic
open Cert.ReferenceIdeal Cert.ReferenceIdeal.Gen Cert.Proof.Spec Cert.Proof.RefRun Cert.Proof.RefValue Cert.Proof.RefArgmax

/-- Whether two words agree, as a number, at an entry of two vectors of words. -/
theorem agree_vec {s : Shape} {w : ℕ} (x y : IVec s w) (j : s.Idx) :
    uitofp (F := Ideal) .f32 (cmpi .eq x y) j = if x j = y j then 1 else 0 := by
  show (((IntOp.cmpi .eq (x j) (y j)).toNat : ℝ) : EReal) = _
  by_cases e : x j = y j <;> simp [IntOp.cmpi, e]

/-- The gap of a bin, at an entry of vectors of counts, confidences, hits and zeros. -/
theorem gap_vec {s : Shape} (n q a z : FVec Ideal s .f32) (j : s.Idx) (hz : z j = 0) :
    select (cmpf .ogt n z) (Host.absf (subf q a)) z j = gap (n j) (a j) (q j) := by
  unfold gap
  simp only [pointwise, hz]
  rfl

/-- The sum of a vector of 15, at each entry of a vector of one. -/
theorem total_vec (x : FVec Ideal S15 .f32) (z : Fin 1) :
    broadcastInDim S1 ![] bcast_S_S1 (Host.reduceAdd x (constant (F := Ideal) S_ .f32 0x00000000#32) reducesTo_S15_S_d0 h_S_) (ix1 z)
      = ∑ b : Fin 15, x (ix1 b) := by
  refine (broadcastInDim_apply _ _ _ (ix1 z) (fun a => a.elim0) fun a => a.elim0).trans ?_
  rw [ValueIdx.hostReduceAdd_apply, Ideal.hostReduceAdd_total _ fun b => b.elim0, sum_idx1]
  exact (congrArg (· + _) Ideal.ofBits_zero_f32).trans (zero_add _)

variable (A : FVec Ideal S1048576x256 .f32) (L : IVec S1048576 32) (h : Lanes.InUnit (rowsOf A) 1048000)

include h

/-- A sum by bin is the sum over all rows read of the value where the row's confidence lies in the bin. -/
theorem byBin_eq (u : FVec Ideal S1048000 .f32) (f : ℕ → EReal) (hu : ∀ i : Fin 1048000, u (ix1 i) = f i.val) (b : Fin 15) :
    byBin A u (ix1 b) = ∑ i ∈ Finset.range 1048000, tick (lower b.val) (upper b.val) (top (rowsOf A i)) * f i := by
  rw [byBin_apply, Finset.sum_range]
  refine Finset.sum_congr rfl fun i _ => ?_
  rw [bin_apply, Bins.bin_tick b (h i.val i.isLt), hu]

/-- The counts. -/
theorem num_eq (b : Fin 15) : num A (ix1 b) = cnt (rowsOf A) (lower b.val) (upper b.val) 1048000 := by
  unfold num cnt
  rw [byBin_eq A h _ (fun _ => 1) (fun i => by rw [RowMax.splat]; exact Ideal.ofBits_one_f32) b]
  exact Finset.sum_congr rfl fun i _ => mul_one _

/-- The confidences. -/
theorem confSum_eq (b : Fin 15) : confSum A (ix1 b) = confs (rowsOf A) (lower b.val) (upper b.val) 1048000 :=
  byBin_eq A h _ (fun i => top (rowsOf A i)) (conf_apply A) b

/-- Whether a row's prediction is its label. -/
theorem acc_apply (i : Fin 1048000) : acc A L (ix1 i) = hit (rowsOf A i.val) (labsOf L i.val) := by
  unfold acc hit
  rw [agree_vec, pred_apply A i (lt_of_le_of_lt bot_le (h i.val i.isLt).1), labs_apply]

/-- The hits. -/
theorem accSum_eq (b : Fin 15) : accSum A L (ix1 b) = hits (rowsOf A) (labsOf L) (lower b.val) (upper b.val) 1048000 :=
  byBin_eq A h _ (fun i => hit (rowsOf A i) (labsOf L i)) (acc_apply A L h) b

/-- The calibration error. -/
theorem ece_eq (z : Fin 1) : ece A L (ix1 z)
    = ∑ b : Fin 15, gap (cnt (rowsOf A) (lower b.val) (upper b.val) 1048000) (hits (rowsOf A) (labsOf L) (lower b.val) (upper b.val) 1048000)
        (confs (rowsOf A) (lower b.val) (upper b.val) 1048000) := by
  unfold ece
  rw [total_vec]
  refine Finset.sum_congr rfl fun b _ => ?_
  unfold gaps
  rw [gap_vec _ _ _ _ _ (zeros_apply b), num_eq A h, confSum_eq A h, accSum_eq A L h]

end Cert.Proof.RefResults

end
-- ==== Proof.PreRead.lean ====
/- What the precondition says: every confidence of the rows read is above 0 and at most 1. -/
module

public import proofs.«01_k».proof.Pre_in_unit
public import proofs.«01_k».proof.Proof.Gen.Pre_in_unit
public import proofs.«01_k».proof.Proof.Lanes
public import proofs.«01_k».proof.Proof.RowMax

@[expose] public section

set_option maxRecDepth 16384

noncomputable section

namespace Cert.Proof.PreRead

open Idealize.ShloMosaic Cert.Proof.Spec Cert.Pre_in_unit Cert.Pre_in_unit.Gen

/-- A conjunction of bits that is one has every bit one. -/
theorem fold_and {ι : Type} (s : Finset ι) (g : ι → BitVec 1) (h : s.fold IntOp.andi 1#1 g = 1#1) : ∀ i ∈ s, g i = 1#1 := by
  classical
  induction s using Finset.induction_on with
  | empty => simp
  | insert a s ha ih =>
    rw [Finset.fold_insert ha] at h
    have key : ∀ x y : BitVec 1, IntOp.andi x y = 1#1 → x = 1#1 ∧ y = 1#1 := by decide
    obtain ⟨h1, h2⟩ := key _ _ h
    intro i hi
    rcases Finset.mem_insert.mp hi with rfl | hi
    · exact h1
    · exact ih h2 i hi

/-- The two comparisons of the precondition. -/
theorem bits (v : EReal) (h : IntOp.andi (FloatOps.cmpf (F := Ideal) (φ := .f32) .ogt v (FloatOps.ofBits .f32 0x00000000#32))
    (FloatOps.cmpf (F := Ideal) (φ := .f32) .ole v (FloatOps.ofBits .f32 0x3F800000#32)) = 1#1) : 0 < v ∧ v ≤ 1 := by
  simp only [pointwise] at h
  have key : ∀ x y : Bool, IntOp.andi (BitVec.ofBool x) (BitVec.ofBool y) = 1#1 → x = true ∧ y = true := by decide
  obtain ⟨g0, g1⟩ := key _ _ h
  exact ⟨of_decide_eq_true g0, of_decide_eq_true g1⟩

/-- The same of a whole vector against the two constants. -/
theorem bits_vec {s u : Shape} (dims : Fin u.rank → Fin s.rank) (hb : u.BroadcastsInDim s dims) (x : FVec Ideal s .f32) (j : s.Idx)
    (h : andi (cmpf .ogt x (broadcastInDim s dims hb (constant u .f32 0x00000000#32)))
      (cmpf .ole x (broadcastInDim s dims hb (constant u .f32 0x3F800000#32))) j = 1#1) : 0 < x j ∧ x j ≤ 1 :=
  bits (x j) h

theorem in_unit_row (A : FVec Ideal S1048576x256 .f32) (L : IVec S1048576 32) (z : IVec S_ 32)
    (h : fn (F := Ideal) A L z = fun _ => 1#1) (i : Fin 1048000) : 0 < top (rowsOf A i.val) ∧ top (rowsOf A i.val) ≤ 1 := by
  have h0 := congrFun h ix0
  unfold fn at h0
  dsimp only at h0
  rw [Host.reduce_eq_fold] at h0
  have h1 := bits_vec _ _ _ _ (fold_and _ _ h0 (ix1 i) (Finset.mem_filter.mpr ⟨Finset.mem_univ _, funext fun a => a.elim0⟩))
  rw [RowMax.rowmax A slices_S1048576x256_S1048000x256_0_0 reducesTo_S1048000x256_S1048000_d1 h_S_ i] at h1
  exact h1

/-- The precondition, read. -/
theorem in_unit (A : FVec Ideal S1048576x256 .f32) (L : IVec S1048576 32) (z : IVec S_ 32)
    (h : fn (F := Ideal) A L z = fun _ => 1#1) : Lanes.InUnit (rowsOf A) 1048000 :=
  fun i hi => in_unit_row A L z h ⟨i, hi⟩

end Cert.Proof.PreRead

end
-- ==== Proof.Equation.lean ====
/- The equation: where every confidence read is above 0 and at most 1, the kernel's three results are the reference's. -/
module

public import proofs.«01_k».proof.Proof.KernelResults
public import proofs.«01_k».proof.Proof.RefResults
public import proofs.«01_k».proof.Proof.PreRead

@[expose] public section

noncomputable section

namespace Cert.Proof.Equation

open Idealize.ShloMosaic Idealize.ShloMosaic.TcCoe Idealize.SL.Sem
open Cert.KernelIdeal Cert.KernelIdeal.Gen Cert.Proof.Spec Cert.Proof.KernelFold Cert.Proof.KernelTotals

section Arrays

variable (m : (ℓ : Loc nD τ sig) → Buf (Elt Ideal) ℓ) (c : Dev nD) (t : Fin cfg0.N) (ht : t.val = 1047)
  (h : Lanes.InUnit (P m c) 1048000)

include ht h

/-- The two vectors of counts. -/
theorem counts_eq : RefRun.num (F := Ideal) (m ((c.tc : Thread nD τ).loc main_arg0)) = KernelRun.counts (result m c t) := by
  funext j
  obtain ⟨b, rfl⟩ : ∃ b, j = ix1 b := ⟨j 0, (ix1_eta j).symm⟩
  exact (RefResults.num_eq _ h b).trans (KernelResults.counts_eq m c t ht h b).symm

/-- The two vectors of hits. -/
theorem sums_eq : RefRun.accSum (F := Ideal) (m ((c.tc : Thread nD τ).loc main_arg0)) (m ((c.tc : Thread nD τ).loc main_arg1))
    = KernelRun.sums (result m c t) := by
  funext j
  obtain ⟨b, rfl⟩ : ∃ b, j = ix1 b := ⟨j 0, (ix1_eta j).symm⟩
  exact (RefResults.accSum_eq _ _ h b).trans (KernelResults.sums_eq m c t ht h b).symm

/-- The two calibration errors. -/
theorem ece_eq : RefRun.ece (F := Ideal) (m ((c.tc : Thread nD τ).loc main_arg0)) (m ((c.tc : Thread nD τ).loc main_arg1))
    = KernelRun.ece (result m c t) := by
  funext j
  obtain ⟨b, rfl⟩ : ∃ b, j = ix1 b := ⟨j 0, (ix1_eta j).symm⟩
  exact (RefResults.ece_eq _ _ h b).trans (KernelResults.ece_eq m c t ht h b).symm

end Arrays

/-- There is a last step of the grid. -/
theorem last : ∃ t : Fin cfg0.N, t.val = 1047 := ⟨⟨1047, lt_of_lt_of_eq (by norm_num) N_0.symm⟩, rfl⟩

/-- From memories that agree on the arguments, with the precondition, both programs end with the same three results. -/
theorem algebraic : Cert.algebraic_KernelIdeal_ReferenceIdeal_pre_in_unit := by
  intro m g m' g' hp ha
  obtain ⟨t, ht⟩ := last
  have h : ∀ c : Dev nD, Lanes.InUnit (P m c) 1048000 := fun c => PreRead.in_unit _ _ _ (hp c)
  refine ⟨fun c => KernelRun.ece (result m c t), fun c => KernelRun.sums (result m c t), fun c => KernelRun.counts (result m c t),
    KernelRun.run m g t ht, ?_⟩
  refine (θ_run _ _ _).mono (fun r q c => ?_) (RefRun.run_main (F := Ideal) m' g')
  obtain ⟨q0, q1, q2, q3⟩ := q c
  obtain ⟨a0, a1, -⟩ := ha c
  rw [a0, a1] at q0 q1
  rw [a0] at q2
  exact ⟨q0.trans (ece_eq m c t ht (h c)), q1.trans (sums_eq m c t ht (h c)), q2.trans (counts_eq m c t ht (h c)), q3⟩

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_unit
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_unit.Gen.facts,
  fun m ρ _ => Cert.Kernel.Gen.frame m ρ, fun m ρ _ => Cert.KernelIdeal.Gen.frame m ρ, fun m ρ _ => Cert.KernelIdeal.Gen.frame m ρ,
  RefRun.frame, fun m ρ _ => RefRun.frame m ρ trivial, trivial, Equation.algebraic⟩

end Cert.Proof

end
